-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_bf16 [hPre_x_is_bf16 : Cert.Pre_x_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_bf16 [hPre_x_is_bf16 : Cert.Pre_x_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_is_bf16 [hKernelIdeal : Cert.KernelIdeal.Facts] [hPre_x_is_bf16 : Cert.Pre_x_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_is_bf16 [hReferenceIdeal : Cert.ReferenceIdeal.Facts] [hPre_x_is_bf16 : Cert.Pre_x_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal_pre_x_is_bf16 [hKernelIdeal : Cert.KernelIdeal.Facts] [hReferenceIdeal : Cert.ReferenceIdeal.Facts] [hPre_x_is_bf16 : Cert.Pre_x_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_x_is_bf16 : Cert.Pre_x_is_bf16.Facts),
    quiescent_Kernel (hKernel := hKernel)
    ∧ quiescent_KernelIdeal (hKernelIdeal := hKernelIdeal)
    ∧ quiescent_KernelIdeal_pre_x_is_bf16 (hKernelIdeal := hKernelIdeal) (hPre_x_is_bf16 := hPre_x_is_bf16)
    ∧ quiescent_ReferenceIdeal (hReferenceIdeal := hReferenceIdeal)
    ∧ quiescent_ReferenceIdeal_pre_x_is_bf16 (hReferenceIdeal := hReferenceIdeal) (hPre_x_is_bf16 := hPre_x_is_bf16)
    ∧ quiescent_Reference (hReference := hReference)
    ∧ preserves_Kernel_KernelIdeal
    ∧ preserves_Reference_ReferenceIdeal
    ∧ algebraic_KernelIdeal_ReferenceIdeal_pre_x_is_bf16 (hKernelIdeal := hKernelIdeal) (hReferenceIdeal := hReferenceIdeal) (hPre_x_is_bf16 := hPre_x_is_bf16)
-- ==== Pre_x_is_bf16.lean ====
abbrev S2x128x1152 : Shape := ⟨3, ![2, 128, 1152]⟩
abbrev S262144x1152 : Shape := ⟨2, ![262144, 1152]⟩
abbrev S262144x36 : Shape := ⟨2, ![262144, 36]⟩
abbrev S2x128 : Shape := ⟨2, ![2, 128]⟩
abbrev S_ : Shape := ⟨0, ![]⟩

class Facts : Prop where
  bitsLt_bf16_f32 : FTy.bits .bf16 < FTy.bits .f32
  bcast_S_S2x128x1152 : S_.BroadcastsInDim S2x128x1152 (![] : Fin 0 → Fin S2x128x1152.rank)
  reducesTo_S2x128x1152_S_d0_1_2 : S2x128x1152.ReducesTo [0, 1, 2] S_
  h_S_ : 0 < S_.numel

variable [Facts]

def fn {F : FTy → Type} [FloatOps F] (main_arg0 : FVec F S2x128x1152 .bf16) (main_arg1 : FVec F S262144x1152 .fp8e4m3) (main_arg2 : IVec S262144x36 8) (main_arg3 : IVec S2x128 32) : IVec S_ 1 :=
  let main_v0 : FVec F S2x128x1152 .f32 := (extf .f32 · bitsLt_bf16_f32) main_arg0
  let main_v1 : FVec F S2x128x1152 .f32 := Host.absf main_v0
  let main_cst : FVec F S_ .f32 := constant S_ .f32 0x7F7F0000#32
  let main_v2 : FVec F S2x128x1152 .f32 := broadcastInDim S2x128x1152 ![] bcast_S_S2x128x1152 main_cst
  let main_v3 : IVec S2x128x1152 1 := cmpf .ole main_v1 main_v2
  let main_cst_0 : FVec F S_ .f32 := constant S_ .f32 0x7F800000#32
  let main_v4 : FVec F S2x128x1152 .f32 := broadcastInDim S2x128x1152 ![] bcast_S_S2x128x1152 main_cst_0
  let main_v5 : IVec S2x128x1152 1 := cmpf .oeq main_v1 main_v4
  let main_v6 : IVec S2x128x1152 1 := ori main_v3 main_v5
  let main_c : IVec S_ 1 := constantI S_ 1 1#1
  let main_v7 : IVec S_ 1 := (fun x v => Host.reduce IntOp.andi x v reducesTo_S2x128x1152_S_d0_1_2 h_S_) main_v6 main_c
  main_v7
-- ==== Kernel.lean ====
abbrev S2x128x1152 : Shape := ⟨3, ![2, 128, 1152]⟩
abbrev S262144x1152 : Shape := ⟨2, ![262144, 1152]⟩
abbrev S262144x36 : Shape := ⟨2, ![262144, 36]⟩
abbrev S2x128 : Shape := ⟨2, ![2, 128]⟩
abbrev S1x256 : Shape := ⟨2, ![1, 256]⟩
abbrev S256x1152 : Shape := ⟨2, ![256, 1152]⟩
abbrev S36x262144 : Shape := ⟨2, ![36, 262144]⟩
abbrev S256x36 : Shape := ⟨2, ![256, 36]⟩
abbrev S2048x1152 : Shape := ⟨2, ![2048, 1152]⟩
abbrev S36x2048 : Shape := ⟨2, ![36, 2048]⟩
abbrev S1152x256 : Shape := ⟨2, ![1152, 256]⟩
abbrev S8x256 : Shape := ⟨2, ![8, 256]⟩
abbrev S36x32x256 : Shape := ⟨3, ![36, 32, 256]⟩
abbrev S36x256 : Shape := ⟨2, ![36, 256]⟩
abbrev S255x36x256 : Shape := ⟨3, ![255, 36, 256]⟩
abbrev S1x36x256 : Shape := ⟨3, ![1, 36, 256]⟩
abbrev S36x1x256 : Shape := ⟨3, ![36, 1, 256]⟩
abbrev S256x128 : Shape := ⟨2, ![256, 128]⟩
abbrev S92x256 : Shape := ⟨2, ![92, 256]⟩
abbrev S128x256 : Shape := ⟨2, ![128, 256]⟩
abbrev S256x128x1 : Shape := ⟨3, ![256, 128, 1]⟩
abbrev S256x256 : Shape := ⟨2, ![256, 256]⟩
abbrev S64x256 : Shape := ⟨2, ![64, 256]⟩
abbrev S8x8x256 : Shape := ⟨3, ![8, 8, 256]⟩
abbrev S1x8x256 : Shape := ⟨3, ![1, 8, 256]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S2x128x1152, .bf16⟩
  | .hbm, ⟨1, _⟩ => ⟨S262144x1152, .fp8e4m3⟩
  | .hbm, ⟨2, _⟩ => ⟨S262144x36, .i8⟩
  | .hbm, ⟨3, _⟩ => ⟨S2x128, .i32⟩
  | .hbm, ⟨4, _⟩ => ⟨S1x256, .i32⟩
  | .hbm, ⟨5, _⟩ => ⟨S256x1152, .bf16⟩
  | .hbm, ⟨6, _⟩ => ⟨S36x262144, .i8⟩
  | .hbm, ⟨7, _⟩ => ⟨S1x256, .f32⟩
  | .hbm, ⟨8, _⟩ => ⟨S256x1152, .fp8e4m3⟩
  | .hbm, ⟨9, _⟩ => ⟨S256x36, .i8⟩
  | .local _ .vmem, ⟨0, _⟩ => ⟨S1x256, .i32⟩
  | .local _ .vmem, ⟨1, _⟩ => ⟨S256x1152, .bf16⟩
  | .local _ .vmem, ⟨2, _⟩ => ⟨S2048x1152, .fp8e4m3⟩
  | .local _ .vmem, ⟨3, _⟩ => ⟨S2048x1152, .fp8e4m3⟩
  | .local _ .vmem, ⟨4, _⟩ => ⟨S36x2048, .i8⟩
  | .local _ .vmem, ⟨5, _⟩ => ⟨S36x2048, .i8⟩
  | .local _ .vmem, ⟨6, _⟩ => ⟨S1x256, .f32⟩
  | .local _ .vmem, ⟨7, _⟩ => ⟨S256x1152, .fp8e4m3⟩
  | .local _ .vmem, ⟨8, _⟩ => ⟨S256x36, .i8⟩
  | .local _ .vmem, ⟨9, _⟩ => ⟨S1152x256, .bf16⟩
  | .local _ .vmem, ⟨10, _⟩ => ⟨S8x256, .f32⟩
  | .local _ .vmem, ⟨11, _⟩ => ⟨S8x256, .f32⟩
  | .local _ .vmem, ⟨12, _⟩ => ⟨S8x256, .f32⟩
  | _, _ => ⟨S2x128x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v2864 : BitVec 1 := Scalar.cmpi .eq arg0 c127_i32
  let v2865 : BitVec 32 := Scalar.extui v2864
  let c0_i32_484 : BitVec 32 := 0#32
  let v2866 : BitVec 1 := Scalar.cmpi .ne v2865 c0_i32_484
  v2866

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1152 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x36 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
variable {F : FTy → Type} [FloatOps F] [Named F]
def κ : String → Option EReal := fun
  | "ln2" => some ((Real.log 2 : ℝ) : EReal)
  | _ => none
-- ==== Reference.lean ====
abbrev S2x128x1152 : Shape := ⟨3, ![2, 128, 1152]⟩
abbrev S262144x1152 : Shape := ⟨2, ![262144, 1152]⟩
abbrev S262144x36 : Shape := ⟨2, ![262144, 36]⟩
abbrev S2x128 : Shape := ⟨2, ![2, 128]⟩
abbrev S1x256 : Shape := ⟨2, ![1, 256]⟩
abbrev S256x1152 : Shape := ⟨2, ![256, 1152]⟩
abbrev S256x36 : Shape := ⟨2, ![256, 36]⟩
abbrev S256x36x32 : Shape := ⟨3, ![256, 36, 32]⟩
abbrev S256x36x1 : Shape := ⟨3, ![256, 36, 1]⟩
abbrev S262144x36x32 : Shape := ⟨3, ![262144, 36, 32]⟩
abbrev S262144x36x1 : Shape := ⟨3, ![262144, 36, 1]⟩
abbrev S256x262144 : Shape := ⟨2, ![256, 262144]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x128x1152, .bf16⟩
  | .hbm, ⟨1, _⟩ => ⟨S262144x1152, .fp8e4m3⟩
  | .hbm, ⟨2, _⟩ => ⟨S262144x36, .i8⟩
  | .hbm, ⟨3, _⟩ => ⟨S2x128, .i32⟩
  | .hbm, ⟨4, _⟩ => ⟨S1x256, .f32⟩
  | .hbm, ⟨5, _⟩ => ⟨S256x1152, .fp8e4m3⟩
  | .hbm, ⟨6, _⟩ => ⟨S256x36, .i8⟩
  | .local _ .vmem, ⟨0, _⟩ => ⟨S2x128x1152, .bf16⟩
  | .local _ .vmem, ⟨1, _⟩ => ⟨S262144x1152, .fp8e4m3⟩
  | .local _ .vmem, ⟨2, _⟩ => ⟨S262144x36, .i8⟩
  | .local _ .vmem, ⟨3, _⟩ => ⟨S2x128, .i32⟩
  | .local _ .vmem, ⟨4, _⟩ => ⟨S1x256, .f32⟩
  | .local _ .vmem, ⟨5, _⟩ => ⟨S256x1152, .fp8e4m3⟩
  | .local _ .vmem, ⟨6, _⟩ => ⟨S256x36, .i8⟩
  | _, _ => ⟨S2x128x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S262144x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S262144x36 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x36 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.Runs.lean ====
/- What the three whole-body runs of the kernel share: the contents the region is entered with, the body's branch
   conditions in closed form over the grid's points, where its windows are idle, and the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, k0_cond1, e0]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 128 = 127 :=
  (fun t => by
    have ht : t.val < 128 := Nat.lt_of_lt_of_eq t.isLt N_0
    have e0 : (grid0.coords t 0).val = t.val / 1 % 128 := Pipeline.Grid.coords_val t 0 (by decide) rfl
    simp only [cond0_1, k0_cond2, e0]
    word_cmp
   : ∀ t : Fin grid0.N, cond0_1 (grid0.coords t) ↔ t.val % 128 = 127)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x80000000000000000000000000000000 : ℕ).testBit n
/-- The table of the codes' window's freshness, point by point. -/
theorem freshTab0_5_step : ∀ t : Fin cfg0.N,
    freshTab0_5 (t.val + 1) = ((cfg0.win 5).flush t || (cfg0.idle 5 (cfg0.grid.coords t) && freshTab0_5 t.val)) := by decide +kernel
/-- The codes' window is fresh as the table says. -/
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the last point the printed configuration calls output 5 idle: the case stores nothing into it. -/
theorem idleAt0_5_C : ∀ t : Fin cfg0.N, ¬cond0_0 (grid0.coords t) → cond0_1 (grid0.coords t) → cfg0.idle 5 (grid0.coords t) = true := by decide +kernel
/-- At the last point the pipeline writes output 5's block back. -/
theorem flush0_5_C : ∀ t : Fin cfg0.N, ¬cond0_0 (grid0.coords t) → cond0_1 (grid0.coords t) → (cfg0.win 5).flush t = true := by decide +kernel
/-- At the points of case C, which keeps output 5's prior contents (reads it before covering, or covers it in part), the
    window's buffer is not FRESH: something was stored into it since the region's entry or its last write-back, idle points
    between or not. -/
theorem notFresh0_5_C : ∀ t : Fin cfg0.N, ¬cond0_0 (grid0.coords t) → cond0_1 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x80000000000000000000000000000000 : ℕ).testBit n
/-- The table of the scales' window's freshness, point by point. -/
theorem freshTab0_6_step : ∀ t : Fin cfg0.N,
    freshTab0_6 (t.val + 1) = ((cfg0.win 6).flush t || (cfg0.idle 6 (cfg0.grid.coords t) && freshTab0_6 t.val)) := by decide +kernel
/-- The scales' window is fresh as the table says. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the last point the printed configuration calls output 6 idle: the case stores nothing into it. -/
theorem idleAt0_6_C : ∀ t : Fin cfg0.N, ¬cond0_0 (grid0.coords t) → cond0_1 (grid0.coords t) → cfg0.idle 6 (grid0.coords t) = true := by decide +kernel
/-- At the last point the pipeline writes output 6's block back. -/
theorem flush0_6_C : ∀ t : Fin cfg0.N, ¬cond0_0 (grid0.coords t) → cond0_1 (grid0.coords t) → (cfg0.win 6).flush t = true := by decide +kernel
/-- At the points of case C, which keeps output 6's prior contents (reads it before covering, or covers it in part), the
    window's buffer is not FRESH: something was stored into it since the region's entry or its last write-back, idle points
    between or not. -/
theorem notFresh0_6_C : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S1x256 .f32 := (Memref.whole cc0_stg4_0 : Memref sig .tc .vmem S1x256 .f32).view
/-- One staging buffer of output window 5, through which its contents are stated (`View.read_writes_of_cover`: the
    choice does not matter). -/
abbrev VO0_5 : View sig .tc .vmem S256x1152 .fp8e4m3 := (Memref.whole cc0_stg5_0 : Memref sig .tc .vmem S256x1152 .fp8e4m3).view
/-- One staging buffer of output window 6, through which its contents are stated (`View.read_writes_of_cover`: the
    choice does not matter). -/
abbrev VO0_6 : View sig .tc .vmem S256x36 .i8 := (Memref.whole cc0_stg6_0 : Memref sig .tc .vmem S256x36 .i8).view
/-- Each window's current staging memref at point `t`, spelled as the pipeline passes it (`bodyAt0`), and its wholeness. -/
abbrev ms0_0 (t : Fin cfg0.N) : Memref sig .tc .vmem S1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1152 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S36x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1152 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x36 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x256 .bf16 := Memref.whole cc0_scratch0
abbrev scM0_1 : Memref sig .tc .vmem S8x256 .f32 := Memref.whole cc0_scratch1
abbrev scM0_2 : Memref sig .tc .vmem S8x256 .f32 := Memref.whole cc0_scratch2
abbrev scM0_3 : Memref sig .tc .vmem S8x256 .f32 := Memref.whole cc0_scratch3
/-- The scratch `arg8` the kernel carries between points, as a view: what it holds is stated through it. -/
abbrev VS0_0 : View sig .tc .vmem S1152x256 .bf16 := scM0_0.view
/-- The scratch `arg9` the kernel carries between points, as a view: what it holds is stated through it. -/
abbrev VS0_1 : View sig .tc .vmem S8x256 .f32 := scM0_1.view
/-- The scratch `arg10` the kernel carries between points, as a view: what it holds is stated through it. -/
abbrev VS0_2 : View sig .tc .vmem S8x256 .f32 := scM0_2.view
/-- The scratch `arg11` the kernel carries between points, as a view: what it holds is stated through it. -/
abbrev VS0_3 : View sig .tc .vmem S8x256 .f32 := scM0_3.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Run

end
-- ==== Proof.KernelRun.RunA.lean ====
/- The whole-body run of the kernel at the grid's first point. -/
module

public import proofs.«01_k».proof.Proof.KernelRun.Runs

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1288000 in
/-- What the body's stores leave in each output's staging memref, as pieces (last first) IN CASE A (`scf.if` 0 taken, `scf.if` 1 not taken: points 0), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) :
    Σ' (L4 : List (View.Piece (Elt F) S1x256 .f32)), Σ' (L5 : List (View.Piece (Elt F) S256x1152 .fp8e4m3)), Σ' (L6 : List (View.Piece (Elt F) S256x36 .i8)), Σ' (LS0 : List (View.Piece (Elt F) S1152x256 .bf16)), Σ' (LS1 : List (View.Piece (Elt F) S8x256 .f32)), Σ' (LS2 : List (View.Piece (Elt F) S8x256 .f32)), { LS3 : List (View.Piece (Elt F) S8x256 .f32) //
      ∀ (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨[], ?_, ?_, ?_, ?_, ?_, ?_, fun xi4 E K => ?run⟩
  case run =>
    simp only [cc0_mxfp8_xent_eq_skeleton]; unfold cc0_mxfp8_xent_skel
    simp only [k0_part63_eq_skeleton, k0_part3_eq_skeleton, k0_part2_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Run

end
-- ==== Proof.KernelRun.RunB.lean ====
/- The whole-body run of the kernel at a middle point of the grid. -/
module

public import proofs.«01_k».proof.Proof.KernelRun.RunA

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 126: 126 of 128), WITH the
    proof that on whole staging memrefs — the inputs' at their contents, the outputs it leaves idle (4, 5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) :
    Σ' (L4 : List (View.Piece (Elt F) S1x256 .f32)), Σ' (L5 : List (View.Piece (Elt F) S256x1152 .fp8e4m3)), Σ' (L6 : List (View.Piece (Elt F) S256x36 .i8)), Σ' (LS0 : List (View.Piece (Elt F) S1152x256 .bf16)), Σ' (LS1 : List (View.Piece (Elt F) S8x256 .f32)), Σ' (LS2 : List (View.Piece (Elt F) S8x256 .f32)), { LS3 : List (View.Piece (Elt F) S8x256 .f32) //
      ∀ (xi4 : Vec F S1x256 .f32) (xi5 : Vec F S256x1152 .fp8e4m3) (xi6 : Vec F S256x36 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨[], [], [], [], ?_, ?_, ?_, fun xi4 xi5 xi6 E K => ?run⟩
  case run =>
    simp only [cc0_mxfp8_xent_eq_skeleton]; unfold cc0_mxfp8_xent_skel
    simp only [k0_part63_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Run

end
-- ==== Proof.KernelRun.RunC.lean ====
/- The whole-body run of the kernel at the grid's last point: it stores the loss and leaves the codes' and the scales'
   staging buffers as it finds them. -/
module

public import proofs.«01_k».proof.Proof.KernelRun.RunB

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 127), WITH the
    proof that on whole staging memrefs — the inputs' at their contents, the outputs it leaves alone (5, 6) at their running contents `xo·`, handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) :
    Σ' (L4 : List (View.Piece (Elt F) S1x256 .f32)), Σ' (L5 : List (View.Piece (Elt F) S256x1152 .fp8e4m3)), Σ' (L6 : List (View.Piece (Elt F) S256x36 .i8)), Σ' (LS0 : List (View.Piece (Elt F) S1152x256 .bf16)), Σ' (LS1 : List (View.Piece (Elt F) S8x256 .f32)), Σ' (LS2 : List (View.Piece (Elt F) S8x256 .f32)), { LS3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨?_, [], [], [], ?_, ?_, ?_, fun E K => ?run⟩
  case run =>
    simp only [cc0_mxfp8_xent_eq_skeleton]; unfold cc0_mxfp8_xent_skel
    simp only [k0_part63_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Run

end
-- ==== Proof.KernelRun.Frame.lean ====
/- What the outputs and the carried scratch hold after each grid point, the pipeline's proof data, the body's obligation
   and the run of the whole program. The codes and the scales are stored at the first point only; their buffers carry that
   contents through every later point, the last one's write-back included. -/
module

public import proofs.«01_k».proof.Proof.KernelRun.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point. -/
def out0_A_4 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S1x256 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 hc0 hc1 x0 x1 x2 x3).1)

/-- Case A's pieces for output 5 tile its block (1 store of `S256x1152`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S256x1152.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.1 S256x1152.size (by sl_kernel_rfl) y

/-- What case A leaves in output 5's staging buffer: its pieces read back over junk. -/
def out0_A_5 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S256x1152 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 x0 x1 x2 x3).2.1)

/-- Case A's pieces for output 6 tile its block (1 store of `S256x36`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S256x36.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.1 S256x36.size (by sl_kernel_rfl) y

/-- What case A leaves in output 6's staging buffer: its pieces read back over junk. -/
def out0_A_6 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S256x36 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.1)

/-- Case A's pieces for scratch `arg8`, which the kernel carries between points, cover it: 1 piece of `S1152x256` tiling it. -/
theorem scover0_A_0 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S1152x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1 S1152x256.size (by sl_kernel_rfl) y

/-- What case A leaves in scratch `arg8`: its pieces read back over junk. -/
def sout0_A_0 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S1152x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1)

/-- Case A's pieces for scratch `arg9`, which the kernel carries between points, cover it: 2 pieces of `S8x256` tiling it. -/
theorem scover0_A_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1 S8x256.size (by sl_kernel_rfl) y

/-- What case A leaves in scratch `arg9`: its pieces read back over junk. -/
def sout0_A_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S8x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch `arg10`, which the kernel carries between points, cover it: 2 pieces of `S8x256` tiling it. -/
theorem scover0_A_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1 S8x256.size (by sl_kernel_rfl) y

/-- What case A leaves in scratch `arg10`: its pieces read back over junk. -/
def sout0_A_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S8x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1)

/-- Case A's pieces for scratch `arg11`, which the kernel carries between points, cover it: 2 pieces of `S8x256` tiling it. -/
theorem scover0_A_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1 S8x256.size (by sl_kernel_rfl) y

/-- What case A leaves in scratch `arg11`: its pieces read back over junk. -/
def sout0_A_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
    (x0 : Vec F S1x256 .i32) (x1 : Vec F S256x1152 .bf16) (x2 : Vec F S2048x1152 .fp8e4m3) (x3 : Vec F S36x2048 .i8) : Vec F S8x256 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1)

/-- Case B stores nothing into output 4 (the window is idle at its points and not written back there):
    no pieces — a placeholder (junk read back) that nothing consults, since at these points the window is neither
    written back nor read at the next point. -/
def out0_B_4 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) : Vec F S1x256 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).1)

/-- Case B stores nothing into output 5 (the window is idle at its points and not written back there) and another
    case keeps its prior contents (reads it before covering, or covers it in part): what its buffer holds after the body is what the
    point before left, CARRIED — an argument of this term alone, which the run does not take. -/
def out0_B_5 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) (xo5 : Vec F S256x1152 .fp8e4m3) : Vec F S256x1152 .fp8e4m3 := xo5

/-- Case B stores nothing into output 6 (the window is idle at its points and not written back there) and another
    case keeps its prior contents (reads it before covering, or covers it in part): what its buffer holds after the body is what the
    point before left, CARRIED — an argument of this term alone, which the run does not take. -/
def out0_B_6 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) (xo6 : Vec F S256x36 .i8) : Vec F S256x36 .i8 := xo6

/-- Case B stores nothing into scratch `arg8`: it holds what the point before left. -/
def sout0_B_0 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) : Vec F S1152x256 .bf16 := xs0

/-- Case B's pieces for scratch `arg9`, which the kernel carries between points, cover it: 1 piece of `S8x256` tiling it. -/
theorem scover0_B_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S8x256.size (by sl_kernel_rfl) y

/-- What case B leaves in scratch `arg9`: its pieces read back over junk. -/
def sout0_B_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) : Vec F S8x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case B's pieces for scratch `arg10`, which the kernel carries between points, cover it: 1 piece of `S8x256` tiling it. -/
theorem scover0_B_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S8x256.size (by sl_kernel_rfl) y

/-- What case B leaves in scratch `arg10`: its pieces read back over junk. -/
def sout0_B_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) : Vec F S8x256 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- Case B's pieces for scratch `arg11`, which the kernel carries between points, cover it: 1 piece of `S8x256` tiling it. -/
theorem scover0_B_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.2.1 S8x256.size (by sl_kernel_rfl) y

/-- What case B leaves in scratch `arg11`: its pieces read back over junk. -/
def sout0_B_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
    (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32) : Vec F S8x256 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.2.1)

/-- Case C's pieces for output 4 tile its block (1 store of `S1x256`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).1 S1x256.size (by sl_kernel_rfl) y

/-- What case C leaves in output 4's staging buffer: its pieces read back over junk. -/
def out0_C_4 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S1x256 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).1)

/-- Case C stores nothing into output 5: its buffer holds what the point before left, carried. -/
def out0_C_5 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S256x1152 .fp8e4m3 := xo5

/-- Case C stores nothing into output 6: its buffer holds what the point before left, carried. -/
def out0_C_6 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S256x36 .i8 := xo6

/-- Case C stores nothing into scratch `arg8`: it holds what the point before left. -/
def sout0_C_0 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S1152x256 .bf16 := xs0

/-- Case C's pieces for scratch `arg9`, which the kernel carries between points, cover it: 1 piece of `S8x256` tiling it. -/
theorem scover0_C_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.1 S8x256.size (by sl_kernel_rfl) y

/-- What case C leaves in scratch `arg9`: its pieces read back over junk. -/
def sout0_C_1 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S8x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.1)

/-- Case C's pieces for scratch `arg10`, which the kernel carries between points, cover it: 1 piece of `S8x256` tiling it. -/
theorem scover0_C_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.1 S8x256.size (by sl_kernel_rfl) y

/-- What case C leaves in scratch `arg10`: its pieces read back over junk. -/
def sout0_C_2 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S8x256 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.1)

/-- Case C's pieces for scratch `arg11`, which the kernel carries between points, cover it: 1 piece of `S8x256` tiling it. -/
theorem scover0_C_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.2.1 S8x256.size (by sl_kernel_rfl) y

/-- What case C leaves in scratch `arg11`: its pieces read back over junk. -/
def sout0_C_3 (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
    (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32) : Vec F S8x256 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3).2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x256 .f32 × Vec F S256x1152 .fp8e4m3 × Vec F S256x36 .i8 × Vec F S1152x256 .bf16 × Vec F S8x256 .f32 × Vec F S8x256 .f32 × Vec F S8x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 128 = 0 then
      if h1 : (n + 1) % 128 = 127 then
        False.elim (by have hN : n + 1 < 128 := lt_of_lt_of_eq hn (show cfg0.N = 128 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 128 = 127 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (outsAt0 c n (Nat.lt_of_succ_lt hn)).2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 128 = 0) (h1 : ¬t.val % 128 = 127) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 128 = 0) (h1 : ¬t.val % 128 = 127) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 128 = 0) (h1 : t.val % 128 = 127) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r))

/-- Before the first point the scratch is whatever it was. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The contents of window 1 after a point. -/
theorem after0_1 (c : Dev nD) (t : Fin cfg0.N) : (dats m 0 c).after 1 t = iblk m c 1 t := by dsimp only [dats]
/-- The contents of window 2 after a point. -/
theorem after0_2 (c : Dev nD) (t : Fin cfg0.N) : (dats m 0 c).after 2 t = iblk m c 2 t := by dsimp only [dats]
/-- The contents of window 3 after a point. -/
theorem after0_3 (c : Dev nD) (t : Fin cfg0.N) : (dats m 0 c).after 3 t = iblk m c 3 t := by dsimp only [dats]
/-- The contents of window 4 after a point. -/
theorem after0_4 (c : Dev nD) (t : Fin cfg0.N) : (dats m 0 c).after 4 t = (outsAt0 m c t.val t.isLt).1 := by dsimp only [dats]
/-- The contents of window 5 after a point. -/
theorem after0_5 (c : Dev nD) (t : Fin cfg0.N) : (dats m 0 c).after 5 t = (outsAt0 m c t.val t.isLt).2.1 := by dsimp only [dats]
/-- The contents of window 6 after a point. -/
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The contents of window 1 before a point. -/
theorem before0_1 (c : Dev nD) (t : Fin cfg0.N) (d) : (dats m 0 c).before 1 t d = iblk m c 1 t :=
  before0_1_of m (dats m 0 c) (A_eq m c 1) (after0_1 m c) t d
/-- The contents of window 2 before a point. -/
theorem before0_2 (c : Dev nD) (t : Fin cfg0.N) (d) : (dats m 0 c).before 2 t d = iblk m c 2 t :=
  before0_2_of m (dats m 0 c) (A_eq m c 2) (after0_2 m c) t d
/-- The contents of window 3 before a point. -/
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 128 := lt_of_lt_of_eq t.isLt (show cfg0.N = 128 from N_0)
  rw [after0_5, after0_5]
  by_cases h0 : t.val % 128 = 0
  · by_cases h1 : t.val % 128 = 127
    · exfalso; omega
    · rw [liveAt0_5_A t ((hcond0_0 t).mpr h0) (fun h => h1 ((hcond0_1 t).mp h))] at hi
      exact absurd hi Bool.false_ne_true
  · by_cases h1 : t.val % 128 = 127
    · rw [outsAt0_C m c t h0 h1]
      dsimp only
      unfold out0_C_5
      rfl
    · rw [outsAt0_B m c t h0 h1]
      dsimp only
      unfold out0_B_5
      rfl

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 128 := lt_of_lt_of_eq t.isLt (show cfg0.N = 128 from N_0)
  rw [after0_6, after0_6]
  by_cases h0 : t.val % 128 = 0
  · by_cases h1 : t.val % 128 = 127
    · exfalso; omega
    · rw [liveAt0_6_A t ((hcond0_0 t).mpr h0) (fun h => h1 ((hcond0_1 t).mp h))] at hi
      exact absurd hi Bool.false_ne_true
  · by_cases h1 : t.val % 128 = 127
    · rw [outsAt0_C m c t h0 h1]
      dsimp only
      unfold out0_C_6
      rfl
    · rw [outsAt0_B m c t h0 h1]
      dsimp only
      unfold out0_B_6
      rfl
/-- At a point of case C output 5's current staging buffer holds what the point before left: the buffer is not fresh
    there (`notFresh0_5_C`: stored into since the region's entry or the last write-back, carried through the points that
    leave it idle by `hcarry0_5`; Lib/Pipeline/TableIdle.lean `Dat.before_out_traj`). -/
theorem before0_5_C (c : Dev nD) (t : Fin cfg0.N) (h0 : ¬t.val % 128 = 0) (h1 : t.val % 128 = 127) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_C t (fun h => h0 ((hcond0_0 t).mp h)) ((hcond0_1 t).mpr h1)]; exact Bool.false_ne_true)]
  dsimp only [dats]
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 128 = 0) (h1 : t.val % 128 = 127) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_C t (fun h => h0 ((hcond0_0 t).mp h)) ((hcond0_1 t).mpr h1)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases h1 : t.val % 128 = 127
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      by_cases hz : t.val = 0
      · rw [PhiS_castSucc m c t, PhiS_zero m c _ _ hz, PhiA0_eq]
        rw [outsAt0_A m c t h0 h1]
        unfold out0_A_5 out0_A_6 sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        isplitl [HS2]; · iexact HS2
        isplitl [HS3]; · iexact HS3
        iintro ⟨H0, H1, H2, H3, H4, ⟨%e5, H5⟩, ⟨%e6, H6⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
      · exfalso; have hN : t.val < 128 := lt_of_lt_of_eq t.isLt (show cfg0.N = 128 from N_0); omega
  · by_cases h1 : t.val % 128 = 127
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [idleAt0_5_C t (fun h => h0 ((hcond0_0 t).mp h)) ((hcond0_1 t).mpr h1), flush0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [idleAt0_6_C t (fun h => h0 ((hcond0_0 t).mp h)) ((hcond0_1 t).mpr h1), flush0_6_C t (fun h => h0 ((hcond0_0 t).mp h)) ((hcond0_1 t).mpr h1)], after0_6]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        simp only [before0_5_C m c t h0 h1, before0_6_C m c t h0 h1]
        unfold out0_C_4 out0_C_5 out0_C_6 sout0_C_0 sout0_C_1 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _ _ _).2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, ⟨%e4, H4⟩, H5, H6, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _ _ _)
        isplitl [H5]; · iexact H5
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold sout0_B_0 sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.Same.lean ====
/- The kernel and its idealization are one program, printed twice: the idealization rewrites nothing. So the frame of the
one, proved at every instance, is the frame of the other. -/
module

public import proofs.«01_k».proof.Proof.KernelRun.Frame
public import proofs.«01_k».proof.Proof.Gen.Kernel
public import proofs.«01_k».proof.Defs

@[expose] public section

set_option maxRecDepth 65536
set_option maxHeartbeats 1000000

noncomputable section

namespace Cert.Proof

open Idealize.ShloMosaic Idealize.SL.Sem

section
open Cert.Kernel.Gen Cert.KernelIdeal.Gen
variable {F : FTy → Type} [FloatOps F]

/-- The host programs are equal. -/
theorem main_same : @Cert.Kernel.main F _ = @Cert.KernelIdeal.main F _ := rfl

/-- The kernels' bodies are equal. -/
theorem body_same : @Cert.Kernel.cc0_mxfp8_xent F _ _ = @Cert.KernelIdeal.cc0_mxfp8_xent F _ _ := rfl

/-- The tables of bodies are equal. -/
theorem bodies_same : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _

/-- The definitions the two runs call are equal. -/
theorem defs_same : @Cert.Kernel.defs F _ _ = @Cert.KernelIdeal.defs F _ _ :=
  congrArg (Pipeline.defs Cert.KernelIdeal.pcfgs) bodies_same
end

/-- The kernel runs, leaves its arguments as they were and every semaphore at zero. -/
theorem frame_Kernel : Cert.quiescent_Kernel (hKernel := Cert.Kernel.Gen.facts) := fun m g _ =>
  (congrArg (fun d => θ_run d (onTc (τ := Cert.KernelIdeal.τ) (Cert.KernelIdeal.main (F := Bits))) ⟨m, fun _ => 0, g⟩
    (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) (defs_same (F := Bits))).mpr (Cert.KernelIdeal.Run.frame (F := Bits) m g)

end Cert.Proof
-- ==== Proof.KernelRun.Value.lean ====
/- The three output arrays after the run, each as the fold over the grid's points that the run states. -/
module

public import proofs.«01_k».proof.Proof.KernelRun.Frame
public import Idealize.ShloMosaic.Lib.Pipeline.Value

@[expose] public section

noncomputable section

namespace Cert.KernelIdeal.Value

open Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`out0_A_4`: the pieces
    its run found, read back) at the point's memrefs and input blocks, and for an output the case reads back what the point before left (`outsAt0` at `t - 1`) — by the frame's rewriting lemma for the case. -/
theorem flushed4_A (c : Dev nD) (t : Fin cfg0.N) (h0 : t.val % 128 = 0) (h1 : ¬t.val % 128 = 127) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  simp only [flushed4, outsAt0_A m c t h0 h1]

/-- … so at a point where case B runs, what its write-back would write is that case's NAMED TERM for the window (`out0_B_4`: the pieces
    its run found, read back) at the point's memrefs and input blocks, and for an output the case reads back what the point before left (`outsAt0` at `t - 1`) — by the frame's rewriting lemma for the case. -/
theorem flushed4_B (c : Dev nD) (t : Fin cfg0.N) (h0 : ¬t.val % 128 = 0) (h1 : ¬t.val % 128 = 127) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed4, outsAt0_B m c t h0 h1]

/-- … so at a point where case C runs, what its write-back would write is that case's NAMED TERM for the window (`out0_C_4`: the pieces
    its run found, read back) at the point's memrefs and input blocks, and for an output the case reads back what the point before left (`outsAt0` at `t - 1`) — by the frame's rewriting lemma for the case. -/
theorem flushed4_C (c : Dev nD) (t : Fin cfg0.N) (h0 : ¬t.val % 128 = 0) (h1 : t.val % 128 = 127) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed4, outsAt0_C m c t h0 h1]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S1x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 128 = 0) (h1 : ¬t.val % 128 = 127) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  simp only [flushed5, outsAt0_A m c t h0 h1]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 128 = 0) (h1 : ¬t.val % 128 = 127) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.1) := by
  simp only [flushed5, outsAt0_B m c t h0 h1]

/-- … so at a point where case C runs, what its write-back would write is that case's NAMED TERM for the window (`out0_C_5`: the pieces
    its run found, read back) at the point's memrefs and input blocks, and for an output the case reads back what the point before left (`outsAt0` at `t - 1`) — by the frame's rewriting lemma for the case. -/
theorem flushed5_C (c : Dev nD) (t : Fin cfg0.N) (h0 : ¬t.val % 128 = 0) (h1 : t.val % 128 = 127) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S256x1152.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`out0_A_6`: the pieces
    its run found, read back) at the point's memrefs and input blocks, and for an output the case reads back what the point before left (`outsAt0` at `t - 1`) — by the frame's rewriting lemma for the case. -/
theorem flushed6_A (c : Dev nD) (t : Fin cfg0.N) (h0 : t.val % 128 = 0) (h1 : ¬t.val % 128 = 127) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  simp only [flushed6, outsAt0_A m c t h0 h1]

/-- … so at a point where case B runs, what its write-back would write is that case's NAMED TERM for the window (`out0_B_6`: the pieces
    its run found, read back) at the point's memrefs and input blocks, and for an output the case reads back what the point before left (`outsAt0` at `t - 1`) — by the frame's rewriting lemma for the case. -/
theorem flushed6_B (c : Dev nD) (t : Fin cfg0.N) (h0 : ¬t.val % 128 = 0) (h1 : ¬t.val % 128 = 127) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.2.1) := by
  simp only [flushed6, outsAt0_B m c t h0 h1]

/-- … so at a point where case C runs, what its write-back would write is that case's NAMED TERM for the window (`out0_C_6`: the pieces
    its run found, read back) at the point's memrefs and input blocks, and for an output the case reads back what the point before left (`outsAt0` at `t - 1`) — by the frame's rewriting lemma for the case. -/
theorem flushed6_C (c : Dev nD) (t : Fin cfg0.N) (h0 : ¬t.val % 128 = 0) (h1 : t.val % 128 = 127) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S256x36.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the first point
    stores the scratch whole without reading what it held, and `acc` does not enter there (nor where no point meets the
    conditions: `acc`, never read). -/
def scAt0_0 (c : Dev nD) (n : ℕ) (hb : n < cfg0.N) (acc : Vec F S1152x256 .bf16) : Vec F S1152x256 .bf16 :=
  if h0 : n % 128 = 0 then
    if h1 : n % 128 = 127 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 128 = 127 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 0 HOLDS after point `t`: the fold of its run up to `t`, from the reset at the run's first point
    `128·(t / 128)`. -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (128 * (t.val / 128)) (t.val % 128)
      (by have h1 := t.isLt; have h2 := Nat.div_add_mod t.val 128; omega) :=
  Pipeline.eq_accAt_of_mod (fun n h => (outsAt0 m c n h).2.2.2.1) 128 (fun n h => scAt0_0 m c n h (VS0_0.read (Elt F) VS0_0.junk)) (scAt0_0 m c)
    (fun n h hn => by
      have hN := lt_of_lt_of_eq h (show cfg0.N = 128 from N_0)
      by_cases h0 : n % 128 = 0 <;> by_cases h1 : n % 128 = 127
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 128 from N_0)
      by_cases h0 : (n + 1) % 128 = 0 <;> by_cases h1 : (n + 1) % 128 = 127
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 128 from N_0)
  have hd : n / 128 = 0 := Nat.div_eq_of_lt hN
  have hm : n % 128 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`sout0_κ_1`; anything else the case takes of the point
    before, another carried scratch or an output it reads back, stays `outsAt0`'s at `n - 1`); a case at the first point
    stores the scratch whole without reading what it held, and `acc` does not enter there (nor where no point meets the
    conditions: `acc`, never read). -/
def scAt0_1 (c : Dev nD) (n : ℕ) (hb : n < cfg0.N) (acc : Vec F S8x256 .f32) : Vec F S8x256 .f32 :=
  if h0 : n % 128 = 0 then
    if h1 : n % 128 = 127 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 128 = 127 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 1 HOLDS after point `t`: the fold of its run up to `t`, from the reset at the run's first point
    `128·(t / 128)`. -/
theorem soutsAt0_1_eq (c : Dev nD) (t : Fin cfg0.N) :
    (outsAt0 m c t.val t.isLt).2.2.2.2.1 = Pipeline.accAt (fun n h => scAt0_1 m c n h (VS0_1.read (Elt F) VS0_1.junk)) (scAt0_1 m c) (128 * (t.val / 128)) (t.val % 128)
      (by have h1 := t.isLt; have h2 := Nat.div_add_mod t.val 128; omega) :=
  Pipeline.eq_accAt_of_mod (fun n h => (outsAt0 m c n h).2.2.2.2.1) 128 (fun n h => scAt0_1 m c n h (VS0_1.read (Elt F) VS0_1.junk)) (scAt0_1 m c)
    (fun n h hn => by
      have hN := lt_of_lt_of_eq h (show cfg0.N = 128 from N_0)
      by_cases h0 : n % 128 = 0 <;> by_cases h1 : n % 128 = 127
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 128 from N_0)
      by_cases h0 : (n + 1) % 128 = 0 <;> by_cases h1 : (n + 1) % 128 = 127
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 128 from N_0)
  have hd : n / 128 = 0 := Nat.div_eq_of_lt hN
  have hm : n % 128 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`sout0_κ_2`; anything else the case takes of the point
    before, another carried scratch or an output it reads back, stays `outsAt0`'s at `n - 1`); a case at the first point
    stores the scratch whole without reading what it held, and `acc` does not enter there (nor where no point meets the
    conditions: `acc`, never read). -/
def scAt0_2 (c : Dev nD) (n : ℕ) (hb : n < cfg0.N) (acc : Vec F S8x256 .f32) : Vec F S8x256 .f32 :=
  if h0 : n % 128 = 0 then
    if h1 : n % 128 = 127 then
      acc
    else
      sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 128 = 127 then
      sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2
    else
      sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 2 HOLDS after point `t`: the fold of its run up to `t`, from the reset at the run's first point
    `128·(t / 128)`. -/
theorem soutsAt0_2_eq (c : Dev nD) (t : Fin cfg0.N) :
    (outsAt0 m c t.val t.isLt).2.2.2.2.2.1 = Pipeline.accAt (fun n h => scAt0_2 m c n h (VS0_2.read (Elt F) VS0_2.junk)) (scAt0_2 m c) (128 * (t.val / 128)) (t.val % 128)
      (by have h1 := t.isLt; have h2 := Nat.div_add_mod t.val 128; omega) :=
  Pipeline.eq_accAt_of_mod (fun n h => (outsAt0 m c n h).2.2.2.2.2.1) 128 (fun n h => scAt0_2 m c n h (VS0_2.read (Elt F) VS0_2.junk)) (scAt0_2 m c)
    (fun n h hn => by
      have hN := lt_of_lt_of_eq h (show cfg0.N = 128 from N_0)
      by_cases h0 : n % 128 = 0 <;> by_cases h1 : n % 128 = 127
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 128 from N_0)
      by_cases h0 : (n + 1) % 128 = 0 <;> by_cases h1 : (n + 1) % 128 = 127
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 128 from N_0)
  have hd : n / 128 = 0 := Nat.div_eq_of_lt hN
  have hm : n % 128 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`sout0_κ_3`; anything else the case takes of the point
    before, another carried scratch or an output it reads back, stays `outsAt0`'s at `n - 1`); a case at the first point
    stores the scratch whole without reading what it held, and `acc` does not enter there (nor where no point meets the
    conditions: `acc`, never read). -/
def scAt0_3 (c : Dev nD) (n : ℕ) (hb : n < cfg0.N) (acc : Vec F S8x256 .f32) : Vec F S8x256 .f32 :=
  if h0 : n % 128 = 0 then
    if h1 : n % 128 = 127 then
      acc
    else
      sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 128 = 127 then
      sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc
    else
      sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc

/-- WHAT CARRIED SCRATCH 3 HOLDS after point `t`: the fold of its run up to `t`, from the reset at the run's first point
    `128·(t / 128)`. -/
theorem soutsAt0_3_eq (c : Dev nD) (t : Fin cfg0.N) :
    (outsAt0 m c t.val t.isLt).2.2.2.2.2.2 = Pipeline.accAt (fun n h => scAt0_3 m c n h (VS0_3.read (Elt F) VS0_3.junk)) (scAt0_3 m c) (128 * (t.val / 128)) (t.val % 128)
      (by have h1 := t.isLt; have h2 := Nat.div_add_mod t.val 128; omega) :=
  Pipeline.eq_accAt_of_mod (fun n h => (outsAt0 m c n h).2.2.2.2.2.2) 128 (fun n h => scAt0_3 m c n h (VS0_3.read (Elt F) VS0_3.junk)) (scAt0_3 m c)
    (fun n h hn => by
      have hN := lt_of_lt_of_eq h (show cfg0.N = 128 from N_0)
      by_cases h0 : n % 128 = 0 <;> by_cases h1 : n % 128 = 127
      all_goals first | (exfalso; omega) | (rw [outsAt0_A m c ⟨n, h⟩ h0 h1]; dsimp only; unfold scAt0_3; rw [dif_pos h0, dif_neg h1] <;> try rfl) | (rw [outsAt0_B m c ⟨n, h⟩ h0 h1]; dsimp only; unfold scAt0_3; rw [dif_neg h0, dif_neg h1] <;> try rfl) | (rw [outsAt0_C m c ⟨n, h⟩ h0 h1]; dsimp only; unfold scAt0_3; rw [dif_neg h0, dif_pos h1] <;> try rfl))
    (fun n h hn => by
      have hN := lt_of_lt_of_eq h (show cfg0.N = 128 from N_0)
      by_cases h0 : (n + 1) % 128 = 0 <;> by_cases h1 : (n + 1) % 128 = 127
      all_goals first | (exfalso; omega) | (rw [outsAt0_A m c ⟨n + 1, h⟩ h0 h1]; dsimp only; unfold scAt0_3; rw [dif_pos h0, dif_neg h1] <;> try rfl) | (rw [outsAt0_B m c ⟨n + 1, h⟩ h0 h1]; dsimp only; unfold scAt0_3; rw [dif_neg h0, dif_neg h1] <;> try rfl) | (rw [outsAt0_C m c ⟨n + 1, h⟩ h0 h1]; dsimp only; unfold scAt0_3; rw [dif_neg h0, dif_pos h1] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.2.2 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 128 from N_0)
  have hd : n / 128 = 0 := Nat.div_eq_of_lt hN
  have hm : n % 128 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x256 .f32 × Vec F S256x1152 .fp8e4m3 × Vec F S256x36 .i8 × Vec F S1152x256 .bf16 × Vec F S8x256 .f32 × Vec F S8x256 .f32 × Vec F S8x256 .f32 :=
  ((VO0_4.read (Elt F) VO0_4.junk, VO0_5.read (Elt F) VO0_5.junk, VO0_6.read (Elt F) VO0_6.junk, VS0_0.read (Elt F) VS0_0.junk, VS0_1.read (Elt F) VS0_1.junk, VS0_2.read (Elt F) VS0_2.junk, VS0_3.read (Elt F) VS0_3.junk) : Vec F S1x256 .f32 × Vec F S256x1152 .fp8e4m3 × Vec F S256x36 .i8 × Vec F S1152x256 .bf16 × Vec F S8x256 .f32 × Vec F S8x256 .f32 × Vec F S8x256 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x256 .f32 × Vec F S256x1152 .fp8e4m3 × Vec F S256x36 .i8 × Vec F S1152x256 .bf16 × Vec F S8x256 .f32 × Vec F S8x256 .f32 × Vec F S8x256 .f32) : Vec F S1x256 .f32 × Vec F S256x1152 .fp8e4m3 × Vec F S256x36 .i8 × Vec F S1152x256 .bf16 × Vec F S8x256 .f32 × Vec F S8x256 .f32 × Vec F S8x256 .f32 :=
  if h0 : n % 128 = 0 then
    if h1 : n % 128 = 127 then
      False.elim (by have hN : n < 128 := lt_of_lt_of_eq hb (show cfg0.N = 128 from N_0); omega)
    else
      (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    if h1 : n % 128 = 127 then
      (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2, sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2.1 acc.2.2.2.2.2.2)
    else
      (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2 acc.2.1, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2 acc.2.2.1, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2)

/-- `stAt0` at a point of case A: that case's contents. -/
theorem stAt0_A (c : Dev nD) (t : Fin cfg0.N) (acc : Vec F S1x256 .f32 × Vec F S256x1152 .fp8e4m3 × Vec F S256x36 .i8 × Vec F S1152x256 .bf16 × Vec F S8x256 .f32 × Vec F S8x256 .f32 × Vec F S8x256 .f32) (h0 : t.val % 128 = 0) (h1 : ¬t.val % 128 = 127) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) :=
  (dif_pos h0).trans ((dif_neg h1).trans rfl)

/-- `stAt0` at a point of case B: that case's contents, over `acc`. -/
theorem stAt0_B (c : Dev nD) (t : Fin cfg0.N) (acc : Vec F S1x256 .f32 × Vec F S256x1152 .fp8e4m3 × Vec F S256x36 .i8 × Vec F S1152x256 .bf16 × Vec F S8x256 .f32 × Vec F S8x256 .f32 × Vec F S8x256 .f32) (h0 : ¬t.val % 128 = 0) (h1 : ¬t.val % 128 = 127) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2 acc.2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2 acc.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) acc.2.2.2.1 acc.2.2.2.2.1 acc.2.2.2.2.2.1 acc.2.2.2.2.2.2) :=
  (dif_neg h0).trans ((dif_neg h1).trans rfl)

/-- `stAt0` at a point of case C: that case's contents, over `acc`. -/
theorem stAt0_C (c : Dev nD) (t : Fin cfg0.N) (acc : Vec F S1x256 .f32 × Vec F S256x1152 .fp8e4m3 × Vec F S256x36 .i8 × Vec F S1152x256 .bf16 × Vec F S8x256 .f32 × Vec F S8x256 .f32 × Vec F S8x256 .f32) (h0 : ¬t.val % 128 = 0) (h1 : t.val % 128 = 127) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) acc.2.1 acc.2.2.1 acc.2.2.2.1 acc.2.2.2.2.1 acc.2.2.2.2.2.1 acc.2.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0`. -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 128 from N_0)
  have e := Pipeline.eq_accAt_of_mod (fun n h => outsAt0 m c n h) 128 (fun n h => stAt0 m c n h junk0) (stAt0 m c)
    (fun n h _ => by
      have hN := lt_of_lt_of_eq h (show cfg0.N = 128 from N_0)
      obtain rfl : n = 0 := by omega
      exact outsAt0_zero m c h)
    (fun n h _ => outsAt0_succ m c n h)
    (by decide) n hn (by have := Nat.div_add_mod n 128; omega)
  have hd : n / 128 = 0 := Nat.div_eq_of_lt hN
  have hm : n % 128 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one every 128 points),
    `i`'s place in it, and the point that writes it back (the last of its 128). -/
abbrev run4Of (i : S1x256.Idx) : ℕ := 1 * ((i 0).val / 1 - 0) + 1 * ((i 1).val / 256 - 0)
set_option backward.proofsInPublic true in
abbrev loc4Of (i : S1x256.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt4Of (i : S1x256.Idx) : ℕ := 128 * run4Of i + 127

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v3_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t / 128`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 128 :=
  (by decide +kernel : ∀ t : Fin grid0.N, _)

/-- Every block of the box is SOME flushing point's: `onto4Pt`, the point that writes back the block at place `q` of the box (the last point of its run). -/
abbrev onto4Pt (q0 : Fin 1) (q1 : Fin 1) : Fin grid0.N :=
  ⟨128 * (1 * q0.val + 1 * q1.val) + 127, lt_of_lt_of_eq (by omega) N_0.symm⟩
/-- Every block of result 4 is written back at some point. -/
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  have hm : t.val % 128 = 127 := (flush0_4 t).mp hf
  obtain ⟨e0, e1, e2⟩ := idx_facts4 t
  funext y
  have hy0 : (y 0).val < 1 := (y 0).isLt
  have hy1 : (y 1).val < 256 := (y 1).isLt
  have hb0 : (((cfg0.win 4).blk t).view.emb y 0).val = win0_4.index t (0 : Fin 2) * 1 + 1 * (y 0).val := rfl
  have hb1 : (((cfg0.win 4).blk t).view.emb y 1).val = win0_4.index t (1 : Fin 2) * 256 + 1 * (y 1).val := rfl
  have hr : run4Of (((cfg0.win 4).blk t).view.emb y) = t.val / 128 := by
    show 1 * ((((cfg0.win 4).blk t).view.emb y 0).val / 1 - 0) + 1 * ((((cfg0.win 4).blk t).view.emb y 1).val / 256 - 0) = _
    rw [hb0, hb1]
    rw [show (win0_4.index t (0 : Fin 2) * 1 + 1 * (y 0).val) / 1 = win0_4.index t (0 : Fin 2) from by omega]; rw [show (win0_4.index t (1 : Fin 2) * 256 + 1 * (y 1).val) / 256 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1 = (y 0).val; rw [hb0]; omega
    | ⟨1, _⟩ => show (((cfg0.win 4).blk t).view.emb y 1).val % 256 = (y 1).val; rw [hb1]; omega
  have hp : pt4Of (((cfg0.win 4).blk t).view.emb y) = t.val := by
    show 128 * run4Of (((cfg0.win 4).blk t).view.emb y) + 127 = _
    rw [hr]; have := Nat.div_add_mod t.val 128; omega
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v3_0).slice (win0_4.rect t)).set ↔ _
  rw [View.set_slice_whole, Rect.mem_set_unit]
  exact Iff.rfl

/-- THE COVERED INDICES: in some flushing point's block iff inside the box those blocks fill. -/
theorem covered_iff4 (i : S1x256.Idx) :
    (∃ t : Fin cfg0.N, (cfg0.win 4).flush t = true ∧ i ∈ ((cfg0.win 4).blk t).view.set) ↔ 0 ≤ (i 0).val ∧ (i 0).val < 1 ∧ 0 ≤ (i 1).val ∧ (i 1).val < 256 := by
  constructor
  · rintro ⟨t, -, hi⟩
    rw [mem_blk4] at hi
    have b0 : win0_4.index t (0 : Fin 2) * 1 ≤ (i 0).val ∧ (i 0).val < win0_4.index t (0 : Fin 2) * 1 + 1 := hi 0
    have b1 : win0_4.index t (1 : Fin 2) * 256 ≤ (i 1).val ∧ (i 1).val < win0_4.index t (1 : Fin 2) * 256 + 256 := hi 1
    obtain ⟨e0, e1, e2⟩ := idx_facts4 t
    omega
  · intro h
    have hi0 : (i 0).val < 1 := (i 0).isLt
    have hi1 : (i 1).val < 256 := (i 1).isLt
    obtain ⟨t, hft, ht⟩ := idx_onto4 ⟨(i 0).val / 1 - 0, by omega⟩ ⟨(i 1).val / 256 - 0, by omega⟩
    have q0 : win0_4.index t (0 : Fin 2) = (i 0).val / 1 - 0 + 0 := congrFun ht 0
    have q1 : win0_4.index t (1 : Fin 2) = (i 1).val / 256 - 0 + 0 := congrFun ht 1
    refine ⟨t, hft, ?_⟩
    rw [mem_blk4]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 256 ≤ (i 1).val ∧ (i 1).val < win0_4.index t (1 : Fin 2) * 256 + 256; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 1 := (i 0).isLt; have h1 : (i 1).val < 256 := (i 1).isLt; omega))

/-- Output 4 is written back ONCE, at the last point, and its block is its array: the array after the run is output 4's
    component of the fold over the whole grid — where a hand proof over this window starts. -/
theorem G4_last (c : Dev nD) :
    G4 m c = (Pipeline.accAt (fun n h => stAt0 m c n h junk0) (stAt0 m c) 0 127 (lt_of_lt_of_eq (by decide) N_0.symm)).1 := by
  funext i
  have hi0 : (i 0).val < 1 := (i 0).isLt
  have hi1 : (i 1).val < 256 := (i 1).isLt
  have hp : pt4Of i = 127 := by
    show 128 * (1 * ((i 0).val / 1 - 0) + 1 * ((i 1).val / 256 - 0)) + 127 = _
    omega
  have hl : loc4Of i = i := by
    funext a; apply Fin.ext
    match a with
    | ⟨0, _⟩ => show (i 0).val % 1 = (i 0).val; omega
    | ⟨1, _⟩ => show (i 1).val % 256 = (i 1).val; omega
  unfold G4
  rw [dif_pos (by rw [hp]; exact lt_of_lt_of_eq (by decide) N_0.symm), hl, fold0_congr m c _ _ _ _ hp]

/-! ## Output window 5 -/

/-- The block of the array that holds index `i`, numbered in the order the points write the blocks back (one every 128 points),
    `i`'s place in it, and the point that writes it back (the last of its 128). -/
abbrev run5Of (i : S256x1152.Idx) : ℕ := 1 * ((i 0).val / 256 - 0) + 1 * ((i 1).val / 1152 - 0)
set_option backward.proofsInPublic true in
abbrev loc5Of (i : S256x1152.Idx) : S256x1152.Idx := fun a => match a with
  | ⟨0, _⟩ => ⟨(i 0).val % 256, Nat.mod_lt _ (by decide)⟩
  | ⟨1, _⟩ => ⟨(i 1).val % 1152, Nat.mod_lt _ (by decide)⟩
abbrev pt5Of (i : S256x1152.Idx) : ℕ := 128 * run5Of i + 127

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v3_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t / 128`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 128 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨128 * (1 * q0.val + 1 * q1.val) + 127, lt_of_lt_of_eq (by omega) N_0.symm⟩
/-- Every block of result 5 is written back at some point. -/
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 128 = 127 := (flush0_5 t).mp hf
  obtain ⟨e0, e1, e2⟩ := idx_facts5 t
  funext y
  have hy0 : (y 0).val < 256 := (y 0).isLt
  have hy1 : (y 1).val < 1152 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 1152 + 1 * (y 1).val := rfl
  have hr : run5Of (((cfg0.win 5).blk t).view.emb y) = t.val / 128 := by
    show 1 * ((((cfg0.win 5).blk t).view.emb y 0).val / 256 - 0) + 1 * ((((cfg0.win 5).blk t).view.emb y 1).val / 1152 - 0) = _
    rw [hb0, hb1]
    rw [show (win0_5.index t (0 : Fin 2) * 256 + 1 * (y 0).val) / 256 = win0_5.index t (0 : Fin 2) from by omega]; rw [show (win0_5.index t (1 : Fin 2) * 1152 + 1 * (y 1).val) / 1152 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
    | ⟨1, _⟩ => show (((cfg0.win 5).blk t).view.emb y 1).val % 1152 = (y 1).val; rw [hb1]; omega
  have hp : pt5Of (((cfg0.win 5).blk t).view.emb y) = t.val := by
    show 128 * run5Of (((cfg0.win 5).blk t).view.emb y) + 127 = _
    rw [hr]; have := Nat.div_add_mod t.val 128; omega
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S256x1152.Idx) :
    i ∈ ((cfg0.win 5).blk t).view.set ↔ ∀ a : Fin 2, win0_5.index t a * S256x1152.size a ≤ (i a).val ∧ (i a).val < win0_5.index t a * S256x1152.size a + S256x1152.size a := by
  show i ∈ ((View.whole main_v3_1).slice (win0_5.rect t)).set ↔ _
  rw [View.set_slice_whole, Rect.mem_set_unit]
  exact Iff.rfl

/-- THE COVERED INDICES: in some flushing point's block iff inside the box those blocks fill. -/
theorem covered_iff5 (i : S256x1152.Idx) :
    (∃ t : Fin cfg0.N, (cfg0.win 5).flush t = true ∧ i ∈ ((cfg0.win 5).blk t).view.set) ↔ 0 ≤ (i 0).val ∧ (i 0).val < 256 ∧ 0 ≤ (i 1).val ∧ (i 1).val < 1152 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 1152 ≤ (i 1).val ∧ (i 1).val < win0_5.index t (1 : Fin 2) * 1152 + 1152 := hi 1
    obtain ⟨e0, e1, e2⟩ := idx_facts5 t
    omega
  · intro h
    have hi0 : (i 0).val < 256 := (i 0).isLt
    have hi1 : (i 1).val < 1152 := (i 1).isLt
    obtain ⟨t, hft, ht⟩ := idx_onto5 ⟨(i 0).val / 256 - 0, by omega⟩ ⟨(i 1).val / 1152 - 0, by omega⟩
    have q0 : win0_5.index t (0 : Fin 2) = (i 0).val / 256 - 0 + 0 := congrFun ht 0
    have q1 : win0_5.index t (1 : Fin 2) = (i 1).val / 1152 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 1152 ≤ (i 1).val ∧ (i 1).val < win0_5.index t (1 : Fin 2) * 1152 + 1152; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 256 := (i 0).isLt; have h1 : (i 1).val < 1152 := (i 1).isLt; omega))

/-- Output 5 is written back ONCE, at the last point, and its block is its array: the array after the run is output 5's
    component of the fold over the whole grid — where a hand proof over this window starts. -/
theorem G5_last (c : Dev nD) :
    G5 m c = (Pipeline.accAt (fun n h => stAt0 m c n h junk0) (stAt0 m c) 0 127 (lt_of_lt_of_eq (by decide) N_0.symm)).2.1 := by
  funext i
  have hi0 : (i 0).val < 256 := (i 0).isLt
  have hi1 : (i 1).val < 1152 := (i 1).isLt
  have hp : pt5Of i = 127 := by
    show 128 * (1 * ((i 0).val / 256 - 0) + 1 * ((i 1).val / 1152 - 0)) + 127 = _
    omega
  have hl : loc5Of i = i := by
    funext a; apply Fin.ext
    match a with
    | ⟨0, _⟩ => show (i 0).val % 256 = (i 0).val; omega
    | ⟨1, _⟩ => show (i 1).val % 1152 = (i 1).val; omega
  unfold G5
  rw [dif_pos (by rw [hp]; exact lt_of_lt_of_eq (by decide) N_0.symm), hl, fold0_congr m c _ _ _ _ hp]

/-! ## Output window 6 -/

/-- The block of the array that holds index `i`, numbered in the order the points write the blocks back (one every 128 points),
    `i`'s place in it, and the point that writes it back (the last of its 128). -/
abbrev run6Of (i : S256x36.Idx) : ℕ := 1 * ((i 0).val / 256 - 0) + 1 * ((i 1).val / 36 - 0)
set_option backward.proofsInPublic true in
abbrev loc6Of (i : S256x36.Idx) : S256x36.Idx := fun a => match a with
  | ⟨0, _⟩ => ⟨(i 0).val % 256, Nat.mod_lt _ (by decide)⟩
  | ⟨1, _⟩ => ⟨(i 1).val % 36, Nat.mod_lt _ (by decide)⟩
abbrev pt6Of (i : S256x36.Idx) : ℕ := 128 * run6Of i + 127

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v3_2) := fun i =>
  if h : pt6Of i < cfg0.N then
    (Pipeline.accAt (fun n h => stAt0 m c n h junk0) (stAt0 m c) 0 (pt6Of i) (by omega)).2.2.1 (loc6Of i)
  else V m c (Pipeline.arrRef spec0 6) i

/-- The printed index map, decided over the grid: output window 6's block indices stay in the box, and the block number
    read off them is the point's (`t / 128`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 128 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨128 * (1 * q0.val + 1 * q1.val) + 127, lt_of_lt_of_eq (by omega) N_0.symm⟩
/-- Every block of result 6 is written back at some point. -/
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 128 = 127 := (flush0_6 t).mp hf
  obtain ⟨e0, e1, e2⟩ := idx_facts6 t
  funext y
  have hy0 : (y 0).val < 256 := (y 0).isLt
  have hy1 : (y 1).val < 36 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 36 + 1 * (y 1).val := rfl
  have hr : run6Of (((cfg0.win 6).blk t).view.emb y) = t.val / 128 := by
    show 1 * ((((cfg0.win 6).blk t).view.emb y 0).val / 256 - 0) + 1 * ((((cfg0.win 6).blk t).view.emb y 1).val / 36 - 0) = _
    rw [hb0, hb1]
    rw [show (win0_6.index t (0 : Fin 2) * 256 + 1 * (y 0).val) / 256 = win0_6.index t (0 : Fin 2) from by omega]; rw [show (win0_6.index t (1 : Fin 2) * 36 + 1 * (y 1).val) / 36 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 256 = (y 0).val; rw [hb0]; omega
    | ⟨1, _⟩ => show (((cfg0.win 6).blk t).view.emb y 1).val % 36 = (y 1).val; rw [hb1]; omega
  have hp : pt6Of (((cfg0.win 6).blk t).view.emb y) = t.val := by
    show 128 * run6Of (((cfg0.win 6).blk t).view.emb y) + 127 = _
    rw [hr]; have := Nat.div_add_mod t.val 128; omega
  show (Pipeline.accAt (fun n h => stAt0 m c n h junk0) (stAt0 m c) 0 t.val _).2.2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S256x36.Idx) :
    i ∈ ((cfg0.win 6).blk t).view.set ↔ ∀ a : Fin 2, win0_6.index t a * S256x36.size a ≤ (i a).val ∧ (i a).val < win0_6.index t a * S256x36.size a + S256x36.size a := by
  show i ∈ ((View.whole main_v3_2).slice (win0_6.rect t)).set ↔ _
  rw [View.set_slice_whole, Rect.mem_set_unit]
  exact Iff.rfl

/-- THE COVERED INDICES: in some flushing point's block iff inside the box those blocks fill. -/
theorem covered_iff6 (i : S256x36.Idx) :
    (∃ t : Fin cfg0.N, (cfg0.win 6).flush t = true ∧ i ∈ ((cfg0.win 6).blk t).view.set) ↔ 0 ≤ (i 0).val ∧ (i 0).val < 256 ∧ 0 ≤ (i 1).val ∧ (i 1).val < 36 := by
  constructor
  · rintro ⟨t, -, hi⟩
    rw [mem_blk6] at hi
    have b0 : win0_6.index t (0 : Fin 2) * 256 ≤ (i 0).val ∧ (i 0).val < win0_6.index t (0 : Fin 2) * 256 + 256 := hi 0
    have b1 : win0_6.index t (1 : Fin 2) * 36 ≤ (i 1).val ∧ (i 1).val < win0_6.index t (1 : Fin 2) * 36 + 36 := hi 1
    obtain ⟨e0, e1, e2⟩ := idx_facts6 t
    omega
  · intro h
    have hi0 : (i 0).val < 256 := (i 0).isLt
    have hi1 : (i 1).val < 36 := (i 1).isLt
    obtain ⟨t, hft, ht⟩ := idx_onto6 ⟨(i 0).val / 256 - 0, by omega⟩ ⟨(i 1).val / 36 - 0, by omega⟩
    have q0 : win0_6.index t (0 : Fin 2) = (i 0).val / 256 - 0 + 0 := congrFun ht 0
    have q1 : win0_6.index t (1 : Fin 2) = (i 1).val / 36 - 0 + 0 := congrFun ht 1
    refine ⟨t, hft, ?_⟩
    rw [mem_blk6]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 36 ≤ (i 1).val ∧ (i 1).val < win0_6.index t (1 : Fin 2) * 36 + 36; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 256 := (i 0).isLt; have h1 : (i 1).val < 36 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 127 (lt_of_lt_of_eq (by decide) N_0.symm)).2.2.1 := by
  funext i
  have hi0 : (i 0).val < 256 := (i 0).isLt
  have hi1 : (i 1).val < 36 := (i 1).isLt
  have hp : pt6Of i = 127 := by
    show 128 * (1 * ((i 0).val / 256 - 0) + 1 * ((i 1).val / 36 - 0)) + 127 = _
    omega
  have hl : loc6Of i = i := by
    funext a; apply Fin.ext
    match a with
    | ⟨0, _⟩ => show (i 0).val % 256 = (i 0).val; omega
    | ⟨1, _⟩ => show (i 1).val % 36 = (i 1).val; omega
  unfold G6
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G4 m c
      ∧ r.2.mem ((c : Thread nD τ).loc main_v3_1) = G5 m c
      ∧ r.2.mem ((c : Thread nD τ).loc main_v3_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.KernelIdeal.Value

end
-- ==== Proof.Point.Blk.lean ====
/- What the kernel computes at one grid point, written once: a chunk's logits from a chunk of the weight codes, their
scales and the widened activations; a group's slab of logits; and the running maximum, the running sum and the label's
logit after a group and after a chunk. -/
module

public import proofs.«01_k».proof.Proof.Gen.KernelIdeal.Skeleton
public import Idealize.ShloMosaic.Lib.Pipeline.FrameBody

@[expose] public section

set_option maxRecDepth 16384

noncomputable section

namespace Cert.KernelIdeal.Point

open Cert.KernelIdeal Cert.KernelIdeal.Gen
open Idealize.ShloMosaic Idealize.ShloMosaic.TcCoe

variable {F : FTy → Type} [FloatOps F]

/-- The lane of the scale table each of the 128 columns of a part reads: its block of 32, from the part's first block. -/
def lane (o : BitVec 32) : IVec S256x128 32 :=
  select (cmpi .slt (addi k0_pay18 (broadcast S256x128 o)) (broadcast S256x128 0#32))
    (addi (addi k0_pay18 (broadcast S256x128 o)) (broadcast S256x128 128#32)) (addi k0_pay18 (broadcast S256x128 o))

/-- One part of a chunk's widened weights: 128 columns of codes, each times its block's scale. -/
def part (o : BitVec 32) (ws : Vec F S36x256 .i8) (w : Vec F S256x128 .fp8e4m3) : FVec F S256x128 .bf16 :=
  mulf (extf .bf16 w bitsLt_fp8e4m3_bf16)
    (truncf .bf16 (dynamicGather 1 (k0_pay19 ws)
      (shapeCast S256x128 (shapeCast S256x128x1 (lane o) shapeCasts_S256x128_S256x128x1) shapeCasts_S256x128x1_S256x128)) bitsLt_bf16_f32)

/-- A chunk's logits: its nine parts side by side, times the widened activations. -/
def logits (ws : Vec F S36x256 .i8) (w0 w1 w2 w3 w4 w5 w6 w7 w8 : Vec F S256x128 .fp8e4m3) (xt : Vec F S1152x256 .bf16) :
    FVec F S256x256 .f32 :=
  matmul dot_S256x1152_S1152x256_S256x256_1_0_0_1_n_n none
    (concatenate S256x1152 1 [⟨S256x128, part 0#32 ws w0⟩, ⟨S256x128, part 4#32 ws w1⟩, ⟨S256x128, part 8#32 ws w2⟩,
      ⟨S256x128, part 12#32 ws w3⟩, ⟨S256x128, part 16#32 ws w4⟩, ⟨S256x128, part 20#32 ws w5⟩, ⟨S256x128, part 24#32 ws w6⟩,
      ⟨S256x128, part 28#32 ws w7⟩, ⟨S256x128, part 32#32 ws w8⟩]
      concatenates_S256x128_S256x128_S256x128_S256x128_S256x128_S256x128_S256x128_S256x128_S256x128_S256x1152_d1)
    xt (constant S256x256 .f32 0x00000000#32)

/-- A group's 64 rows of logits, as eight planes of eight rows. -/
def slab {o : Fin 2 → ℕ} (h : S256x256.Slices o S64x256) (lg : FVec F S256x256 .f32) : FVec F S8x8x256 .f32 :=
  shapeCast S8x8x256 (extractStridedSlice S64x256 o lg h) shapeCasts_S64x256_S8x8x256

/-- The running maximum after a group. -/
def gmax (sl : FVec F S8x8x256 .f32) (m : FVec F S8x256 .f32) : FVec F S8x256 .f32 :=
  maximumf m (multiReduction .maximumf [0] S8x256 sl 0xFF800000#32 reduces_S8x8x256_S8x256 (.inl rfl) rfl)

/-- The running sum of exponentials after a group, from the maximum before it and after it. -/
def gsum (sl : FVec F S8x8x256 .f32) (m m' s : FVec F S8x256 .f32) : FVec F S8x256 .f32 :=
  addf (mulf s (exp (subf m m')))
    (multiReduction .add [0] S8x256 (exp (subf sl (broadcastTo S8x8x256 (shapeCast S1x8x256 m' shapeCasts_S8x256_S1x8x256)
      broadcasts_S1x8x256_S8x8x256))) 0x00000000#32 reduces_S8x8x256_S8x256 (.inl rfl) rfl)

/-- The label's logit after one plane of a group: taken where the label is the plane's row. -/
def pick {o : Fin 3 → ℕ} (h : S8x8x256.Slices o S1x8x256) (lr : IVec S8x256 32) (b : BitVec 32) (sl : FVec F S8x8x256 .f32)
    (lab : FVec F S8x256 .f32) : FVec F S8x256 .f32 :=
  select (cmpi .eq lr (broadcast S8x256 b)) (shapeCast S8x256 (extractStridedSlice S1x8x256 o sl h) shapeCasts_S1x8x256_S8x256) lab

/-- The label's logit after a group whose first row is row `b` of the point's tile. -/
def glab (lr : IVec S8x256 32) (b : ℕ) (sl : FVec F S8x8x256 .f32) (lab : FVec F S8x256 .f32) : FVec F S8x256 .f32 :=
  pick slices_S8x8x256_o7_0_0_S1x8x256 lr (BitVec.ofNat 32 (b + 56)) sl
  (pick slices_S8x8x256_o6_0_0_S1x8x256 lr (BitVec.ofNat 32 (b + 48)) sl
  (pick slices_S8x8x256_o5_0_0_S1x8x256 lr (BitVec.ofNat 32 (b + 40)) sl
  (pick slices_S8x8x256_o4_0_0_S1x8x256 lr (BitVec.ofNat 32 (b + 32)) sl
  (pick slices_S8x8x256_o3_0_0_S1x8x256 lr (BitVec.ofNat 32 (b + 24)) sl
  (pick slices_S8x8x256_o2_0_0_S1x8x256 lr (BitVec.ofNat 32 (b + 16)) sl
  (pick slices_S8x8x256_o1_0_0_S1x8x256 lr (BitVec.ofNat 32 (b + 8)) sl
  (pick slices_S8x8x256_o0_0_0_S1x8x256 lr (BitVec.ofNat 32 (b + 0)) sl lab)))))))

/-- The running maximum after the first group of a chunk, the first two, the first three, and the chunk. -/
def cmax1 (lg : FVec F S256x256 .f32) (m : FVec F S8x256 .f32) := gmax (slab slices_S256x256_o0_0_S64x256 lg) m
@[inherit_doc cmax1] def cmax2 (lg : FVec F S256x256 .f32) (m : FVec F S8x256 .f32) := gmax (slab slices_S256x256_o64_0_S64x256 lg) (cmax1 lg m)
@[inherit_doc cmax1] def cmax3 (lg : FVec F S256x256 .f32) (m : FVec F S8x256 .f32) := gmax (slab slices_S256x256_o128_0_S64x256 lg) (cmax2 lg m)
@[inherit_doc cmax1] def cmax (lg : FVec F S256x256 .f32) (m : FVec F S8x256 .f32) := gmax (slab slices_S256x256_o192_0_S64x256 lg) (cmax3 lg m)

/-- The running sum after a chunk. -/
def csum (lg : FVec F S256x256 .f32) (m s : FVec F S8x256 .f32) : FVec F S8x256 .f32 :=
  gsum (slab slices_S256x256_o192_0_S64x256 lg) (cmax3 lg m) (cmax lg m)
  (gsum (slab slices_S256x256_o128_0_S64x256 lg) (cmax2 lg m) (cmax3 lg m)
  (gsum (slab slices_S256x256_o64_0_S64x256 lg) (cmax1 lg m) (cmax2 lg m)
  (gsum (slab slices_S256x256_o0_0_S64x256 lg) m (cmax1 lg m) s)))

/-- The label's logit after chunk `c` of the point's tile. -/
def clab (lr : IVec S8x256 32) (c : ℕ) (lg : FVec F S256x256 .f32) (lab : FVec F S8x256 .f32) : FVec F S8x256 .f32 :=
  glab lr (256 * c + 192) (slab slices_S256x256_o192_0_S64x256 lg)
  (glab lr (256 * c + 128) (slab slices_S256x256_o128_0_S64x256 lg)
  (glab lr (256 * c + 64) (slab slices_S256x256_o64_0_S64x256 lg)
  (glab lr (256 * c + 0) (slab slices_S256x256_o0_0_S64x256 lg) lab)))

/-- Chunk `c` of a point's block of scales: all 36 rows, 256 columns. -/
def sslice (x3 : Vec F S36x2048 .i8) (c : Fin 8) : Vec F S36x256 .i8 :=
  View.ld x3 (Rect.unit ![0, 256 * c.val] ![36, 256] (by intro a; fin_cases a <;> simp <;> omega))

/-- Part `k` of chunk `c` of a point's block of weight codes: 256 rows, 128 columns. -/
def wslice (x2 : Vec F S2048x1152 .fp8e4m3) (c : Fin 8) (k : Fin 9) : Vec F S256x128 .fp8e4m3 :=
  View.ld x2 (Rect.unit ![256 * c.val, 128 * k.val] ![256, 128] (by intro a; fin_cases a <;> simp <;> omega))

/-- The logits of chunk `c` of a point's tile. -/
def tile (x2 : Vec F S2048x1152 .fp8e4m3) (x3 : Vec F S36x2048 .i8) (xt : Vec F S1152x256 .bf16) (c : Fin 8) : FVec F S256x256 .f32 :=
  logits (sslice x3 c) (wslice x2 c 0) (wslice x2 c 1) (wslice x2 c 2) (wslice x2 c 3) (wslice x2 c 4) (wslice x2 c 5) (wslice x2 c 6)
    (wslice x2 c 7) (wslice x2 c 8) xt

/-- The running maximum after the first `n` chunks of a tile. -/
def pmax (T : Fin 8 → FVec F S256x256 .f32) (m : FVec F S8x256 .f32) : ℕ → FVec F S8x256 .f32
  | 0 => m
  | n + 1 => cmax (T (Fin.ofNat 8 n)) (pmax T m n)

/-- The running sum after the first `n` chunks of a tile. -/
def psum (T : Fin 8 → FVec F S256x256 .f32) (m s : FVec F S8x256 .f32) : ℕ → FVec F S8x256 .f32
  | 0 => s
  | n + 1 => csum (T (Fin.ofNat 8 n)) (pmax T m n) (psum T m s n)

/-- The label's logit after the first `n` chunks of a tile. -/
def plab (T : Fin 8 → FVec F S256x256 .f32) (lr : IVec S8x256 32) (lab : FVec F S8x256 .f32) : ℕ → FVec F S8x256 .f32
  | 0 => lab
  | n + 1 => clab lr n (T (Fin.ofNat 8 n)) (plab T lr lab n)

/-- The loss a row of running maxima, sums and label logits gives: their eight lanes put together. -/
def loss (m s lab : FVec F S8x256 .f32) : FVec F S1x256 .f32 :=
  have top : FVec F S1x256 .f32 := shapeCast S1x256 (multiReduction .maximumf [0] S256 m 0xFF800000#32 reduces_S8x256_S256 (.inl rfl) rfl) shapeCasts_S256_S1x256
  subf (subf (addf top (log (shapeCast S1x256 (multiReduction .add [0] S256 (mulf s (exp (subf m (broadcastTo S8x256 top broadcasts_S1x256_S8x256))))
      0x00000000#32 reduces_S8x256_S256 (.inl rfl) rfl) shapeCasts_S256_S1x256)))
    (shapeCast S1x256 (multiReduction .add [0] S256 lab 0x00000000#32 reduces_S8x256_S256 (.inl rfl) rfl) shapeCasts_S256_S1x256))
    (broadcast S1x256 (Scalar.ofBits .f32 0x4147A05B#32))

end Cert.KernelIdeal.Point
-- ==== Proof.Point.Raw.lean ====
/- A tile's logits as the body reads its blocks, through the loads, and as functions of the blocks themselves. -/
module

public import proofs.«01_k».proof.Proof.Point.Blk
public import Idealize.ShloMosaic.Lib.Pipeline.Value

@[expose] public section

set_option maxRecDepth 16384

noncomputable section

namespace Cert.KernelIdeal.Point

open Cert.KernelIdeal Cert.KernelIdeal.Gen
open Idealize.ShloMosaic Idealize.ShloMosaic.TcCoe Idealize.SL.Sem

variable {F : FTy → Type} [FloatOps F]

/-- A load of a whole memref that holds `X` reads `X` at the rectangle's indices. -/
theorem readAt_held {S : Shape} {e : EltTy} {sp : Space} (M : Memref sig .tc sp S e) (h : M.IsWhole) (X : Vec F S e) (r : Rect S) :
    View.readAt (Elt F) M.view r.toLoadRect (h.unread X) = View.ld X r := by
  show View.ld (M.view.read (Elt F) (h.unread X)) r = _
  rw [h.read_unread]

/-- The offsets of a whole rectangle are zero. -/
theorem zeros2 : (![0, 0] : Fin 2 → ℕ) = fun _ => 0 := by
  funext a
  fin_cases a <;> rfl

/-- The widened activations, the codes and the scale bytes of a block of activations. -/
def xtOf (x1 : Vec F S256x1152 .bf16) : FVec F S1152x256 .bf16 := k0_pay11 (k0_pay8 x1) (k0_pay9 x1)
@[inherit_doc xtOf] def codesOf (x1 : Vec F S256x1152 .bf16) : FVec F S256x1152 .fp8e4m3 := k0_pay12 (k0_pay9 x1)
@[inherit_doc xtOf] def scaleOf (x1 : Vec F S256x1152 .bf16) : IVec S256x36 8 := k0_pay13 (k0_pay7 x1)

/-- The rectangle of chunk `c` in a block of scales. -/
def srect (c : Fin 8) : Rect S36x2048 := Rect.unit ![0, 256 * c.val] ![36, 256] (by intro a; fin_cases a <;> simp <;> omega)

/-- The rectangle of part `k` of chunk `c` in a block of weight codes. -/
def wrect (c : Fin 8) (k : Fin 9) : Rect S2048x1152 :=
  Rect.unit ![256 * c.val, 128 * k.val] ![256, 128] (by intro a; fin_cases a <;> simp <;> omega)

/-- The logits of chunk `c`, through the body's loads. -/
def rawTile (arg3 : Memref sig .tc .vmem S2048x1152 .fp8e4m3) (harg3 : arg3.IsWhole) (arg4 : Memref sig .tc .vmem S36x2048 .i8)
    (harg4 : arg4.IsWhole) (x2 : Vec F S2048x1152 .fp8e4m3) (x3 : Vec F S36x2048 .i8) (xt : Vec F S1152x256 .bf16) (c : Fin 8) :
    FVec F S256x256 .f32 :=
  have w (k : Fin 9) : Vec F S256x128 .fp8e4m3 := View.readAt (Elt F) arg3.view (wrect c k).toLoadRect (harg3.unread x2)
  logits (View.readAt (Elt F) arg4.view (srect c).toLoadRect (harg4.unread x3)) (w 0) (w 1) (w 2) (w 3) (w 4) (w 5) (w 6) (w 7) (w 8) xt

/-- The loads read the blocks. -/
theorem rawTile_eq (arg3 : Memref sig .tc .vmem S2048x1152 .fp8e4m3) (harg3 : arg3.IsWhole) (arg4 : Memref sig .tc .vmem S36x2048 .i8)
    (harg4 : arg4.IsWhole) (x2 : Vec F S2048x1152 .fp8e4m3) (x3 : Vec F S36x2048 .i8) (xt : Vec F S1152x256 .bf16) :
    rawTile arg3 harg3 arg4 harg4 x2 x3 xt = tile x2 x3 xt := by
  funext c
  unfold rawTile tile
  have hw (k : Fin 9) : (View.readAt (Elt F) arg3.view (wrect c k).toLoadRect (harg3.unread x2) : Vec F S256x128 .fp8e4m3) = wslice x2 c k :=
    readAt_held arg3 harg3 x2 (wrect c k)
  have hs : (View.readAt (Elt F) arg4.view (srect c).toLoadRect (harg4.unread x3) : Vec F S36x256 .i8) = sslice x3 c :=
    readAt_held arg4 harg4 x3 (srect c)
  simp only [hw, hs]

end Cert.KernelIdeal.Point
-- ==== Proof.Point.WordsA.lean ====
/- The running maximum, sum and label logit the kernel's body computes at the grid's first point, chunk by chunk, as the functions of
Point/Blk.lean of its blocks. -/
module

public import proofs.«01_k».proof.Proof.KernelRun.RunA
public import proofs.«01_k».proof.Proof.Point.Raw

@[expose] public section

set_option maxRecDepth 16384

noncomputable section

namespace Cert.KernelIdeal.Point

open Cert.KernelIdeal Cert.KernelIdeal.Gen Cert.KernelIdeal.Run
open Idealize.ShloMosaic Idealize.ShloMosaic.TcCoe

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole)
  (x0 : Vec F S1x256 .i32) (x1 : Vec F S256x1152 .bf16) (x2 : Vec F S2048x1152 .fp8e4m3) (x3 : Vec F S36x2048 .i8)

/-! Each chunk's logits, and the running maximum, sum and label logit after it, from those before it. -/

/-- Chunk 0's logits. -/
theorem lg0_A : (kernelRun0_A.sl.r_14 c arg2 harg2 arg3 harg3 arg4 harg4 arg8 x1 x2 x3)
    = rawTile arg3 harg3 arg4 harg4 x2 x3 (kernelRun0_A.sl.v177 c arg2 harg2 arg8 x1) 0 := rfl

/-- The running maximum after chunk 0. -/
theorem mx0_A : (kernelRun0_A.sl.r_32 c arg2 harg2 arg3 harg3 arg4 harg4 arg8 arg9 x1 x2 x3)
    = cmax (kernelRun0_A.sl.r_14 c arg2 harg2 arg3 harg3 arg4 harg4 arg8 x1 x2 x3) (kernelRun0_A.sl.v36 c arg9) := rfl

/-- The running sum after chunk 0. -/
theorem sm0_A : (kernelRun0_A.sl.r_33 c arg2 harg2 arg3 harg3 arg4 harg4 arg8 arg9 arg10 x1 x2 x3)
    = csum (kernelRun0_A.sl.r_14 c arg2 harg2 arg3 harg3 arg4 harg4 arg8 x1 x2 x3) (kernelRun0_A.sl.v36 c arg9) (kernelRun0_A.sl.v37 c arg10) := rfl

/-- The label's logit after chunk 0. -/
theorem lb0_A : (kernelRun0_A.sl.r_35 c i arg1 harg1 arg2 harg2 arg3 harg3 arg4 harg4 arg8 arg11 x0 x1 x2 x3)
    = clab (kernelRun0_A.sl.r_3 c i arg1 harg1 x0) 0 (kernelRun0_A.sl.r_14 c arg2 harg2 arg3 harg3 arg4 harg4 arg8 x1 x2 x3) (kernelRun0_A.sl.v38 c arg11) := rfl

/-- Chunk 1's logits. -/
theorem lg1_A : (kernelRun0_A.sl.r_44 c arg2 harg2 arg3 harg3 arg4 harg4 arg8 x1 x2 x3)
    = rawTile arg3 harg3 arg4 harg4 x2 x3 (kernelRun0_A.sl.v177 c arg2 harg2 arg8 x1) 1 := rfl

/-- The running maximum after chunk 1. -/
theorem mx1_A : (kernelRun0_A.sl.r_63 c arg2 harg2 arg3 harg3 arg4 harg4 arg8 arg9 x1 x2 x3)
    = cmax (kernelRun0_A.sl.r_44 c arg2 harg2 arg3 harg3 arg4 harg4 arg8 x1 x2 x3) (kernelRun0_A.sl.r_32 c arg2 harg2 arg3 harg3 arg4 harg4 arg8 arg9 x1 x2 x3) := rfl

/-- The running sum after chunk 1. -/
theorem sm1_A : (kernelRun0_A.sl.r_64 c arg2 harg2 arg3 harg3 arg4 harg4 arg8 arg9 arg10 x1 x2 x3)
    = csum (kernelRun0_A.sl.r_44 c arg2 harg2 arg3 harg3 arg4 harg4 arg8 x1 x2 x3) (kernelRun0_A.sl.r_32 c arg2 harg2 arg3 harg3 arg4 harg4 arg8 arg9 x1 x2 x3) (kernelRun0_A.sl.r_33 c arg2 harg2 arg3 harg3 arg4 harg4 arg8 arg9 arg10 x1 x2 x3) := rfl

/-- The label's logit after chunk 1. -/
theorem lb1_A : (kernelRun0_A.sl.r_65 c i arg1 harg1 arg2 harg2 arg3 harg3 arg4 harg4 arg8 arg11 x0 x1 x2 x3)
    = clab (kernelRun0_A.sl.r_3 c i arg1 harg1 x0) 1 (kernelRun0_A.sl.r_44 c arg2 harg2 arg3 harg3 arg4 harg4 arg8 x1 x2 x3) (kernelRun0_A.sl.r_35 c i arg1 harg1 arg2 harg2 arg3 harg3 arg4 harg4 arg8 arg11 x0 x1 x2 x3) := rfl

/-- Chunk 2's logits. -/
theorem lg2_A : (kernelRun0_A.sl.r_74 c arg2 harg2 arg3 harg3 arg4 harg4 arg8 x1 x2 x3)
    = rawTile arg3 harg3 arg4 harg4 x2 x3 (kernelRun0_A.sl.v177 c arg2 harg2 arg8 x1) 2 := rfl

/-- The running maximum after chunk 2. -/
theorem mx2_A : (kernelRun0_A.sl.r_92 c arg2 harg2 arg3 harg3 arg4 harg4 arg8 arg9 x1 x2 x3)
    = cmax (kernelRun0_A.sl.r_74 c arg2 harg2 arg3 harg3 arg4 harg4 arg8 x1 x2 x3) (kernelRun0_A.sl.r_63 c arg2 harg2 arg3 harg3 arg4 harg4 arg8 arg9 x1 x2 x3) := rfl

/-- The running sum after chunk 2. -/
theorem sm2_A : (kernelRun0_A.sl.r_93 c arg2 harg2 arg3 harg3 arg4 harg4 arg8 arg9 arg10 x1 x2 x3)
    = csum (kernelRun0_A.sl.r_74 c arg2 harg2 arg3 harg3 arg4 harg4 arg8 x1 x2 x3) (kernelRun0_A.sl.r_63 c arg2 harg2 arg3 harg3 arg4 harg4 arg8 arg9 x1 x2 x3) (kernelRun0_A.sl.r_64 c arg2 harg2 arg3 harg3 arg4 harg4 arg8 arg9 arg10 x1 x2 x3) := rfl

/-- The label's logit after chunk 2. -/
theorem lb2_A : (kernelRun0_A.sl.r_95 c i arg1 harg1 arg2 harg2 arg3 harg3 arg4 harg4 arg8 arg11 x0 x1 x2 x3)
    = clab (kernelRun0_A.sl.r_3 c i arg1 harg1 x0) 2 (kernelRun0_A.sl.r_74 c arg2 harg2 arg3 harg3 arg4 harg4 arg8 x1 x2 x3) (kernelRun0_A.sl.r_65 c i arg1 harg1 arg2 harg2 arg3 harg3 arg4 harg4 arg8 arg11 x0 x1 x2 x3) := rfl

/-- Chunk 3's logits. -/
theorem lg3_A : (kernelRun0_A.sl.r_108 c arg2 harg2 arg3 harg3 arg4 harg4 arg8 x1 x2 x3)
    = rawTile arg3 harg3 arg4 harg4 x2 x3 (kernelRun0_A.sl.v177 c arg2 harg2 arg8 x1) 3 := rfl

/-- The running maximum after chunk 3. -/
theorem mx3_A : (kernelRun0_A.sl.r_126 c arg2 harg2 arg3 harg3 arg4 harg4 arg8 arg9 x1 x2 x3)
    = cmax (kernelRun0_A.sl.r_108 c arg2 harg2 arg3 harg3 arg4 harg4 arg8 x1 x2 x3) (kernelRun0_A.sl.r_92 c arg2 harg2 arg3 harg3 arg4 harg4 arg8 arg9 x1 x2 x3) := rfl

/-- The running sum after chunk 3. -/
theorem sm3_A : (kernelRun0_A.sl.r_127 c arg2 harg2 arg3 harg3 arg4 harg4 arg8 arg9 arg10 x1 x2 x3)
    = csum (kernelRun0_A.sl.r_108 c arg2 harg2 arg3 harg3 arg4 harg4 arg8 x1 x2 x3) (kernelRun0_A.sl.r_92 c arg2 harg2 arg3 harg3 arg4 harg4 arg8 arg9 x1 x2 x3) (kernelRun0_A.sl.r_93 c arg2 harg2 arg3 harg3 arg4 harg4 arg8 arg9 arg10 x1 x2 x3) := rfl

/-- The label's logit after chunk 3. -/
theorem lb3_A : (kernelRun0_A.sl.r_129 c i arg1 harg1 arg2 harg2 arg3 harg3 arg4 harg4 arg8 arg11 x0 x1 x2 x3)
    = clab (kernelRun0_A.sl.r_3 c i arg1 harg1 x0) 3 (kernelRun0_A.sl.r_108 c arg2 harg2 arg3 harg3 arg4 harg4 arg8 x1 x2 x3) (kernelRun0_A.sl.r_95 c i arg1 harg1 arg2 harg2 arg3 harg3 arg4 harg4 arg8 arg11 x0 x1 x2 x3) := rfl

/-- Chunk 4's logits. -/
theorem lg4_A : (kernelRun0_A.sl.r_139 c arg2 harg2 arg3 harg3 arg4 harg4 arg8 x1 x2 x3)
    = rawTile arg3 harg3 arg4 harg4 x2 x3 (kernelRun0_A.sl.v177 c arg2 harg2 arg8 x1) 4 := rfl

/-- The running maximum after chunk 4. -/
theorem mx4_A : (kernelRun0_A.sl.r_158 c arg2 harg2 arg3 harg3 arg4 harg4 arg8 arg9 x1 x2 x3)
    = cmax (kernelRun0_A.sl.r_139 c arg2 harg2 arg3 harg3 arg4 harg4 arg8 x1 x2 x3) (kernelRun0_A.sl.r_126 c arg2 harg2 arg3 harg3 arg4 harg4 arg8 arg9 x1 x2 x3) := rfl

/-- The running sum after chunk 4. -/
theorem sm4_A : (kernelRun0_A.sl.r_159 c arg2 harg2 arg3 harg3 arg4 harg4 arg8 arg9 arg10 x1 x2 x3)
    = csum (kernelRun0_A.sl.r_139 c arg2 harg2 arg3 harg3 arg4 harg4 arg8 x1 x2 x3) (kernelRun0_A.sl.r_126 c arg2 harg2 arg3 harg3 arg4 harg4 arg8 arg9 x1 x2 x3) (kernelRun0_A.sl.r_127 c arg2 harg2 arg3 harg3 arg4 harg4 arg8 arg9 arg10 x1 x2 x3) := rfl

/-- The label's logit after chunk 4. -/
theorem lb4_A : (kernelRun0_A.sl.r_160 c i arg1 harg1 arg2 harg2 arg3 harg3 arg4 harg4 arg8 arg11 x0 x1 x2 x3)
    = clab (kernelRun0_A.sl.r_3 c i arg1 harg1 x0) 4 (kernelRun0_A.sl.r_139 c arg2 harg2 arg3 harg3 arg4 harg4 arg8 x1 x2 x3) (kernelRun0_A.sl.r_129 c i arg1 harg1 arg2 harg2 arg3 harg3 arg4 harg4 arg8 arg11 x0 x1 x2 x3) := rfl

/-- Chunk 5's logits. -/
theorem lg5_A : (kernelRun0_A.sl.r_171 c arg2 harg2 arg3 harg3 arg4 harg4 arg8 x1 x2 x3)
    = rawTile arg3 harg3 arg4 harg4 x2 x3 (kernelRun0_A.sl.v177 c arg2 harg2 arg8 x1) 5 := rfl

/-- The running maximum after chunk 5. -/
theorem mx5_A : (kernelRun0_A.sl.r_189 c arg2 harg2 arg3 harg3 arg4 harg4 arg8 arg9 x1 x2 x3)
    = cmax (kernelRun0_A.sl.r_171 c arg2 harg2 arg3 harg3 arg4 harg4 arg8 x1 x2 x3) (kernelRun0_A.sl.r_158 c arg2 harg2 arg3 harg3 arg4 harg4 arg8 arg9 x1 x2 x3) := rfl

/-- The running sum after chunk 5. -/
theorem sm5_A : (kernelRun0_A.sl.r_190 c arg2 harg2 arg3 harg3 arg4 harg4 arg8 arg9 arg10 x1 x2 x3)
    = csum (kernelRun0_A.sl.r_171 c arg2 harg2 arg3 harg3 arg4 harg4 arg8 x1 x2 x3) (kernelRun0_A.sl.r_158 c arg2 harg2 arg3 harg3 arg4 harg4 arg8 arg9 x1 x2 x3) (kernelRun0_A.sl.r_159 c arg2 harg2 arg3 harg3 arg4 harg4 arg8 arg9 arg10 x1 x2 x3) := rfl

/-- The label's logit after chunk 5. -/
theorem lb5_A : (kernelRun0_A.sl.r_192 c i arg1 harg1 arg2 harg2 arg3 harg3 arg4 harg4 arg8 arg11 x0 x1 x2 x3)
    = clab (kernelRun0_A.sl.r_3 c i arg1 harg1 x0) 5 (kernelRun0_A.sl.r_171 c arg2 harg2 arg3 harg3 arg4 harg4 arg8 x1 x2 x3) (kernelRun0_A.sl.r_160 c i arg1 harg1 arg2 harg2 arg3 harg3 arg4 harg4 arg8 arg11 x0 x1 x2 x3) := rfl

/-- Chunk 6's logits. -/
theorem lg6_A : (kernelRun0_A.sl.r_201 c arg2 harg2 arg3 harg3 arg4 harg4 arg8 x1 x2 x3)
    = rawTile arg3 harg3 arg4 harg4 x2 x3 (kernelRun0_A.sl.v177 c arg2 harg2 arg8 x1) 6 := rfl

/-- The running maximum after chunk 6. -/
theorem mx6_A : (kernelRun0_A.sl.r_220 c arg2 harg2 arg3 harg3 arg4 harg4 arg8 arg9 x1 x2 x3)
    = cmax (kernelRun0_A.sl.r_201 c arg2 harg2 arg3 harg3 arg4 harg4 arg8 x1 x2 x3) (kernelRun0_A.sl.r_189 c arg2 harg2 arg3 harg3 arg4 harg4 arg8 arg9 x1 x2 x3) := rfl

/-- The running sum after chunk 6. -/
theorem sm6_A : (kernelRun0_A.sl.r_221 c arg2 harg2 arg3 harg3 arg4 harg4 arg8 arg9 arg10 x1 x2 x3)
    = csum (kernelRun0_A.sl.r_201 c arg2 harg2 arg3 harg3 arg4 harg4 arg8 x1 x2 x3) (kernelRun0_A.sl.r_189 c arg2 harg2 arg3 harg3 arg4 harg4 arg8 arg9 x1 x2 x3) (kernelRun0_A.sl.r_190 c arg2 harg2 arg3 harg3 arg4 harg4 arg8 arg9 arg10 x1 x2 x3) := rfl

/-- The label's logit after chunk 6. -/
theorem lb6_A : (kernelRun0_A.sl.r_222 c i arg1 harg1 arg2 harg2 arg3 harg3 arg4 harg4 arg8 arg11 x0 x1 x2 x3)
    = clab (kernelRun0_A.sl.r_3 c i arg1 harg1 x0) 6 (kernelRun0_A.sl.r_201 c arg2 harg2 arg3 harg3 arg4 harg4 arg8 x1 x2 x3) (kernelRun0_A.sl.r_192 c i arg1 harg1 arg2 harg2 arg3 harg3 arg4 harg4 arg8 arg11 x0 x1 x2 x3) := rfl

/-- Chunk 7's logits. -/
theorem lg7_A : (kernelRun0_A.sl.r_231 c arg2 harg2 arg3 harg3 arg4 harg4 arg8 x1 x2 x3)
    = rawTile arg3 harg3 arg4 harg4 x2 x3 (kernelRun0_A.sl.v177 c arg2 harg2 arg8 x1) 7 := rfl

/-- The running maximum after chunk 7. -/
theorem mx7_A : (kernelRun0_A.sl.r_249 c arg2 harg2 arg3 harg3 arg4 harg4 arg8 arg9 x1 x2 x3)
    = cmax (kernelRun0_A.sl.r_231 c arg2 harg2 arg3 harg3 arg4 harg4 arg8 x1 x2 x3) (kernelRun0_A.sl.r_220 c arg2 harg2 arg3 harg3 arg4 harg4 arg8 arg9 x1 x2 x3) := rfl

/-- The running sum after chunk 7. -/
theorem sm7_A : (kernelRun0_A.sl.r_250 c arg2 harg2 arg3 harg3 arg4 harg4 arg8 arg9 arg10 x1 x2 x3)
    = csum (kernelRun0_A.sl.r_231 c arg2 harg2 arg3 harg3 arg4 harg4 arg8 x1 x2 x3) (kernelRun0_A.sl.r_220 c arg2 harg2 arg3 harg3 arg4 harg4 arg8 arg9 x1 x2 x3) (kernelRun0_A.sl.r_221 c arg2 harg2 arg3 harg3 arg4 harg4 arg8 arg9 arg10 x1 x2 x3) := rfl

/-- The label's logit after chunk 7. -/
theorem lb7_A : (k0_pay1 (kernelRun0_A.sl.r_3 c i arg1 harg1 x0) (kernelRun0_A.sl.r_248 c arg2 harg2 arg3 harg3 arg4 harg4 arg8 x1 x2 x3) (kernelRun0_A.sl.r_251 c i arg1 harg1 arg2 harg2 arg3 harg3 arg4 harg4 arg8 arg11 x0 x1 x2 x3) 2032#32)
    = clab (kernelRun0_A.sl.r_3 c i arg1 harg1 x0) 7 (kernelRun0_A.sl.r_231 c arg2 harg2 arg3 harg3 arg4 harg4 arg8 x1 x2 x3) (kernelRun0_A.sl.r_222 c i arg1 harg1 arg2 harg2 arg3 harg3 arg4 harg4 arg8 arg11 x0 x1 x2 x3) := rfl

/-- The running maximum after the tile. -/
theorem max_A : (kernelRun0_A.sl.r_249 c arg2 harg2 arg3 harg3 arg4 harg4 arg8 arg9 x1 x2 x3)
    = pmax (rawTile arg3 harg3 arg4 harg4 x2 x3 (kernelRun0_A.sl.v177 c arg2 harg2 arg8 x1)) (kernelRun0_A.sl.v36 c arg9) 8 := by
  rw [mx7_A, lg7_A, mx6_A, lg6_A, mx5_A, lg5_A, mx4_A, lg4_A, mx3_A, lg3_A, mx2_A, lg2_A, mx1_A, lg1_A, mx0_A, lg0_A]
  rfl

/-- The running sum after the tile. -/
theorem sum_A : (kernelRun0_A.sl.r_250 c arg2 harg2 arg3 harg3 arg4 harg4 arg8 arg9 arg10 x1 x2 x3)
    = psum (rawTile arg3 harg3 arg4 harg4 x2 x3 (kernelRun0_A.sl.v177 c arg2 harg2 arg8 x1)) (kernelRun0_A.sl.v36 c arg9) (kernelRun0_A.sl.v37 c arg10) 8 := by
  rw [sm7_A, lg7_A, mx6_A, sm6_A, lg6_A, mx5_A, sm5_A, lg5_A, mx4_A, sm4_A, lg4_A, mx3_A, sm3_A, lg3_A, mx2_A, sm2_A, lg2_A, mx1_A, sm1_A, lg1_A, mx0_A, sm0_A, lg0_A]
  rfl

/-- The label's logit after the tile. -/
theorem lab_A : (k0_pay1 (kernelRun0_A.sl.r_3 c i arg1 harg1 x0) (kernelRun0_A.sl.r_248 c arg2 harg2 arg3 harg3 arg4 harg4 arg8 x1 x2 x3) (kernelRun0_A.sl.r_251 c i arg1 harg1 arg2 harg2 arg3 harg3 arg4 harg4 arg8 arg11 x0 x1 x2 x3) 2032#32)
    = plab (rawTile arg3 harg3 arg4 harg4 x2 x3 (kernelRun0_A.sl.v177 c arg2 harg2 arg8 x1)) (kernelRun0_A.sl.r_3 c i arg1 harg1 x0) (kernelRun0_A.sl.v38 c arg11) 8 := by
  rw [lb7_A, lg7_A, lb6_A, lg6_A, lb5_A, lg5_A, lb4_A, lg4_A, lb3_A, lg3_A, lb2_A, lg2_A, lb1_A, lg1_A, lb0_A, lg0_A]
  rfl

end Cert.KernelIdeal.Point
-- ==== Proof.Point.OutA.lean ====
/- What the body leaves at the grid's first point, in the carried scratch and in the outputs it stores: the functions of
Point/Blk.lean of its blocks and of what it found. -/
module

public import proofs.«01_k».proof.Proof.KernelRun.Frame
public import proofs.«01_k».proof.Proof.Point.WordsA

@[expose] public section

set_option maxRecDepth 16384

noncomputable section

namespace Cert.KernelIdeal.Point

open Cert.KernelIdeal Cert.KernelIdeal.Gen Cert.KernelIdeal.Run
open Idealize.ShloMosaic Idealize.ShloMosaic.TcCoe Idealize.SL.Sem

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : ¬cond0_1 i)
  (x0 : Vec F S1x256 .i32) (x1 : Vec F S256x1152 .bf16) (x2 : Vec F S2048x1152 .fp8e4m3) (x3 : Vec F S36x2048 .i8)

/-- The labels relative to the point's rows. -/
theorem lr_A : (kernelRun0_A.sl.r_3 c i arg1 harg1 x0) = k0_pay17 i x0 := by
  show k0_pay17 i (View.readAt (Elt F) arg1.view (Rect.unit (s := S1x256) ![0, 0] ![1, 256] inb_S1x256_S1x256_0_0).toLoadRect (harg1.unread x0)) = _
  rw [readAt_held, View.ld_unit_zero zeros2]

/-- The activations read. -/
theorem inx_A : View.readAt (Elt F) arg2.view (Rect.unit (s := S256x1152) ![0, 0] ![256, 1152] inb_S256x1152_S256x1152_0_0).toLoadRect (harg2.unread x1) = x1 := by
  rw [readAt_held, View.ld_unit_zero zeros2]

/-- The running maximum read back. -/
theorem inv36_A : (kernelRun0_A.sl.v36 c arg9) = (k0_pay14 : FVec F S8x256 .f32) := by
  unfold kernelRun0_A.sl.v36 kernelRun0_A.sl.HS1_1
  exact View.readCov_unit_zero _ zeros2 _ _

/-- The running sum read back. -/
theorem inv37_A : (kernelRun0_A.sl.v37 c arg10) = (k0_pay15 : FVec F S8x256 .f32) := by
  unfold kernelRun0_A.sl.v37 kernelRun0_A.sl.HS2_1
  exact View.readCov_unit_zero _ zeros2 _ _

/-- The label's logit read back. -/
theorem inv38_A : (kernelRun0_A.sl.v38 c arg11) = (k0_pay16 : FVec F S8x256 .f32) := by
  unfold kernelRun0_A.sl.v38 kernelRun0_A.sl.HS3_1
  exact View.readCov_unit_zero _ zeros2 _ _

/-- The widened activations read back. -/
theorem inxt_A : (kernelRun0_A.sl.v177 c arg2 harg2 arg8 x1) = xtOf x1 := by
  unfold kernelRun0_A.sl.v177 kernelRun0_A.sl.HS0_1
  refine (View.readCov_unit_zero _ zeros2 _ _).trans ?_
  exact congrArg (fun z => k0_pay11 (k0_pay8 z) (k0_pay9 z)) (inx_A arg2 harg2 x1)

/-- The running maximum after all eight chunks. -/
theorem pmax_A : (kernelRun0_A.sl.r_249 c arg2 harg2 arg3 harg3 arg4 harg4 arg8 arg9 x1 x2 x3) = pmax (tile x2 x3 (xtOf x1)) (k0_pay14 (F := F)) 8 := by
  rw [max_A, rawTile_eq, inxt_A, inv36_A]

/-- The running sum after all eight chunks. -/
theorem psum_A : (kernelRun0_A.sl.r_250 c arg2 harg2 arg3 harg3 arg4 harg4 arg8 arg9 arg10 x1 x2 x3) = psum (tile x2 x3 (xtOf x1)) (k0_pay14 (F := F)) (k0_pay15 (F := F)) 8 := by
  rw [sum_A, rawTile_eq, inxt_A, inv36_A, inv37_A]

/-- The label's logit after all eight chunks. -/
theorem plab_A : k0_pay1 (kernelRun0_A.sl.r_3 c i arg1 harg1 x0) (kernelRun0_A.sl.r_248 c arg2 harg2 arg3 harg3 arg4 harg4 arg8 x1 x2 x3) (kernelRun0_A.sl.r_251 c i arg1 harg1 arg2 harg2 arg3 harg3 arg4 harg4 arg8 arg11 x0 x1 x2 x3) 2032#32 = plab (tile x2 x3 (xtOf x1)) (k0_pay17 i x0) (k0_pay16 (F := F)) 8 := by
  rw [lab_A, rawTile_eq, inxt_A, inv38_A, lr_A]

/-- The running maximum it leaves. -/
theorem sout0_A_1_eq : sout0_A_1 c i arg1 harg1 arg2 harg2 arg3 harg3 arg4 harg4 arg5 harg5 arg6 harg6 arg7 harg7 arg8 harg8 arg9 harg9 arg10 harg10 arg11 harg11 hc0 hc1 x0 x1 x2 x3 = pmax (tile x2 x3 (xtOf x1)) (k0_pay14 (F := F)) 8 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_cons_unit_zero zeros2 _ _ _).trans ?_
  exact (shapeCast_self _ _).trans (pmax_A ..)

/-- The running sum it leaves. -/
theorem sout0_A_2_eq : sout0_A_2 c i arg1 harg1 arg2 harg2 arg3 harg3 arg4 harg4 arg5 harg5 arg6 harg6 arg7 harg7 arg8 harg8 arg9 harg9 arg10 harg10 arg11 harg11 hc0 hc1 x0 x1 x2 x3 = psum (tile x2 x3 (xtOf x1)) (k0_pay14 (F := F)) (k0_pay15 (F := F)) 8 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_cons_unit_zero zeros2 _ _ _).trans ?_
  exact (shapeCast_self _ _).trans (psum_A ..)

/-- The label's logit it leaves. -/
theorem sout0_A_3_eq : sout0_A_3 c i arg1 harg1 arg2 harg2 arg3 harg3 arg4 harg4 arg5 harg5 arg6 harg6 arg7 harg7 arg8 harg8 arg9 harg9 arg10 harg10 arg11 harg11 hc0 hc1 x0 x1 x2 x3 = plab (tile x2 x3 (xtOf x1)) (k0_pay17 i x0) (k0_pay16 (F := F)) 8 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_cons_unit_zero zeros2 _ _ _).trans ?_
  exact (shapeCast_self _ _).trans (plab_A ..)

/-- The widened activations it leaves. -/
theorem sout0_A_0_eq : sout0_A_0 c i arg1 harg1 arg2 harg2 arg3 harg3 arg4 harg4 arg5 harg5 arg6 harg6 arg7 harg7 arg8 harg8 arg9 harg9 arg10 harg10 arg11 harg11 hc0 hc1 x0 x1 x2 x3 = xtOf x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_unit_zero zeros2 _ _).trans ?_
  exact congrArg (fun z => k0_pay11 (k0_pay8 z) (k0_pay9 z)) (inx_A arg2 harg2 x1)

/-- The codes it stores. -/
theorem out0_A_5_eq : out0_A_5 c i arg1 harg1 arg2 harg2 arg3 harg3 arg4 harg4 arg5 harg5 arg6 harg6 arg7 harg7 arg8 harg8 arg9 harg9 arg10 harg10 arg11 harg11 hc0 hc1 x0 x1 x2 x3 = codesOf x1 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_unit_zero zeros2 _ _).trans ?_
  exact congrArg (fun z => k0_pay12 (k0_pay9 z)) (inx_A arg2 harg2 x1)

/-- The scale bytes it stores. -/
theorem out0_A_6_eq : out0_A_6 c i arg1 harg1 arg2 harg2 arg3 harg3 arg4 harg4 arg5 harg5 arg6 harg6 arg7 harg7 arg8 harg8 arg9 harg9 arg10 harg10 arg11 harg11 hc0 hc1 x0 x1 x2 x3 = scaleOf x1 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  refine (View.canon_unit_zero zeros2 _ _).trans ?_
  exact congrArg (fun z => k0_pay13 (k0_pay7 z)) (inx_A arg2 harg2 x1)

end Cert.KernelIdeal.Point
-- ==== Proof.Point.WordsB.lean ====
/- The running maximum, sum and label logit the kernel's body computes at a point between the first and the last, chunk by chunk, as the functions of
Point/Blk.lean of its blocks. -/
module

public import proofs.«01_k».proof.Proof.KernelRun.RunB
public import proofs.«01_k».proof.Proof.Point.Raw

@[expose] public section

set_option maxRecDepth 16384

noncomputable section

namespace Cert.KernelIdeal.Point

open Cert.KernelIdeal Cert.KernelIdeal.Gen Cert.KernelIdeal.Run
open Idealize.ShloMosaic Idealize.ShloMosaic.TcCoe

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole)
  (x0 : Vec F S1x256 .i32) (x1 : Vec F S256x1152 .bf16) (x2 : Vec F S2048x1152 .fp8e4m3) (x3 : Vec F S36x2048 .i8) (xs0 : Vec F S1152x256 .bf16) (xs1 xs2 xs3 : Vec F S8x256 .f32)

/-! Each chunk's logits, and the running maximum, sum and label logit after it, from those before it. -/

/-- Chunk 0's logits. -/
theorem lg0_B : (kernelRun0_B.sl.r_14 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 0 := rfl

/-- The running maximum after chunk 0. -/
theorem mx0_B : (kernelRun0_B.sl.r_32 c arg3 harg3 arg4 harg4 arg8 harg8 arg9 harg9 x2 x3 xs0 xs1)
    = cmax (kernelRun0_B.sl.r_14 c arg3 harg3 arg4 harg4 arg8 harg8 x2 x3 xs0) (kernelRun0_B.sl.r_1 c arg9 harg9 xs1) := rfl

/-- The running sum after chunk 0. -/
theorem sm0_B : (kernelRun0_B.sl.r_33 c arg3 harg3 arg4 harg4 arg8 harg8 arg9 harg9 arg10 harg10 x2 x3 xs0 xs1 xs2)
    = csum (kernelRun0_B.sl.r_14 c arg3 harg3 arg4 harg4 arg8 harg8 x2 x3 xs0) (kernelRun0_B.sl.r_1 c arg9 harg9 xs1) (kernelRun0_B.sl.r_2 c arg10 harg10 xs2) := rfl

/-- The label's logit after chunk 0. -/
theorem lb0_B : (kernelRun0_B.sl.r_35 c i arg1 harg1 arg3 harg3 arg4 harg4 arg8 harg8 arg11 harg11 x0 x2 x3 xs0 xs3)
    = clab (kernelRun0_B.sl.r c i arg1 harg1 x0) 0 (kernelRun0_B.sl.r_14 c arg3 harg3 arg4 harg4 arg8 harg8 x2 x3 xs0) (kernelRun0_B.sl.r_3 c arg11 harg11 xs3) := rfl

/-- Chunk 1's logits. -/
theorem lg1_B : (kernelRun0_B.sl.r_44 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 1 := rfl

/-- The running maximum after chunk 1. -/
theorem mx1_B : (kernelRun0_B.sl.r_63 c arg3 harg3 arg4 harg4 arg8 harg8 arg9 harg9 x2 x3 xs0 xs1)
    = cmax (kernelRun0_B.sl.r_44 c arg3 harg3 arg4 harg4 arg8 harg8 x2 x3 xs0) (kernelRun0_B.sl.r_32 c arg3 harg3 arg4 harg4 arg8 harg8 arg9 harg9 x2 x3 xs0 xs1) := rfl

/-- The running sum after chunk 1. -/
theorem sm1_B : (kernelRun0_B.sl.r_64 c arg3 harg3 arg4 harg4 arg8 harg8 arg9 harg9 arg10 harg10 x2 x3 xs0 xs1 xs2)
    = csum (kernelRun0_B.sl.r_44 c arg3 harg3 arg4 harg4 arg8 harg8 x2 x3 xs0) (kernelRun0_B.sl.r_32 c arg3 harg3 arg4 harg4 arg8 harg8 arg9 harg9 x2 x3 xs0 xs1) (kernelRun0_B.sl.r_33 c arg3 harg3 arg4 harg4 arg8 harg8 arg9 harg9 arg10 harg10 x2 x3 xs0 xs1 xs2) := rfl

/-- The label's logit after chunk 1. -/
theorem lb1_B : (kernelRun0_B.sl.r_65 c i arg1 harg1 arg3 harg3 arg4 harg4 arg8 harg8 arg11 harg11 x0 x2 x3 xs0 xs3)
    = clab (kernelRun0_B.sl.r c i arg1 harg1 x0) 1 (kernelRun0_B.sl.r_44 c arg3 harg3 arg4 harg4 arg8 harg8 x2 x3 xs0) (kernelRun0_B.sl.r_35 c i arg1 harg1 arg3 harg3 arg4 harg4 arg8 harg8 arg11 harg11 x0 x2 x3 xs0 xs3) := rfl

/-- Chunk 2's logits. -/
theorem lg2_B : (kernelRun0_B.sl.r_74 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 2 := rfl

/-- The running maximum after chunk 2. -/
theorem mx2_B : (kernelRun0_B.sl.r_92 c arg3 harg3 arg4 harg4 arg8 harg8 arg9 harg9 x2 x3 xs0 xs1)
    = cmax (kernelRun0_B.sl.r_74 c arg3 harg3 arg4 harg4 arg8 harg8 x2 x3 xs0) (kernelRun0_B.sl.r_63 c arg3 harg3 arg4 harg4 arg8 harg8 arg9 harg9 x2 x3 xs0 xs1) := rfl

/-- The running sum after chunk 2. -/
theorem sm2_B : (kernelRun0_B.sl.r_93 c arg3 harg3 arg4 harg4 arg8 harg8 arg9 harg9 arg10 harg10 x2 x3 xs0 xs1 xs2)
    = csum (kernelRun0_B.sl.r_74 c arg3 harg3 arg4 harg4 arg8 harg8 x2 x3 xs0) (kernelRun0_B.sl.r_63 c arg3 harg3 arg4 harg4 arg8 harg8 arg9 harg9 x2 x3 xs0 xs1) (kernelRun0_B.sl.r_64 c arg3 harg3 arg4 harg4 arg8 harg8 arg9 harg9 arg10 harg10 x2 x3 xs0 xs1 xs2) := rfl

/-- The label's logit after chunk 2. -/
theorem lb2_B : (kernelRun0_B.sl.r_95 c i arg1 harg1 arg3 harg3 arg4 harg4 arg8 harg8 arg11 harg11 x0 x2 x3 xs0 xs3)
    = clab (kernelRun0_B.sl.r c i arg1 harg1 x0) 2 (kernelRun0_B.sl.r_74 c arg3 harg3 arg4 harg4 arg8 harg8 x2 x3 xs0) (kernelRun0_B.sl.r_65 c i arg1 harg1 arg3 harg3 arg4 harg4 arg8 harg8 arg11 harg11 x0 x2 x3 xs0 xs3) := rfl

/-- Chunk 3's logits. -/
theorem lg3_B : (kernelRun0_B.sl.r_108 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 3 := rfl

/-- The running maximum after chunk 3. -/
theorem mx3_B : (kernelRun0_B.sl.r_126 c arg3 harg3 arg4 harg4 arg8 harg8 arg9 harg9 x2 x3 xs0 xs1)
    = cmax (kernelRun0_B.sl.r_108 c arg3 harg3 arg4 harg4 arg8 harg8 x2 x3 xs0) (kernelRun0_B.sl.r_92 c arg3 harg3 arg4 harg4 arg8 harg8 arg9 harg9 x2 x3 xs0 xs1) := rfl

/-- The running sum after chunk 3. -/
theorem sm3_B : (kernelRun0_B.sl.r_127 c arg3 harg3 arg4 harg4 arg8 harg8 arg9 harg9 arg10 harg10 x2 x3 xs0 xs1 xs2)
    = csum (kernelRun0_B.sl.r_108 c arg3 harg3 arg4 harg4 arg8 harg8 x2 x3 xs0) (kernelRun0_B.sl.r_92 c arg3 harg3 arg4 harg4 arg8 harg8 arg9 harg9 x2 x3 xs0 xs1) (kernelRun0_B.sl.r_93 c arg3 harg3 arg4 harg4 arg8 harg8 arg9 harg9 arg10 harg10 x2 x3 xs0 xs1 xs2) := rfl

/-- The label's logit after chunk 3. -/
theorem lb3_B : (kernelRun0_B.sl.r_129 c i arg1 harg1 arg3 harg3 arg4 harg4 arg8 harg8 arg11 harg11 x0 x2 x3 xs0 xs3)
    = clab (kernelRun0_B.sl.r c i arg1 harg1 x0) 3 (kernelRun0_B.sl.r_108 c arg3 harg3 arg4 harg4 arg8 harg8 x2 x3 xs0) (kernelRun0_B.sl.r_95 c i arg1 harg1 arg3 harg3 arg4 harg4 arg8 harg8 arg11 harg11 x0 x2 x3 xs0 xs3) := rfl

/-- Chunk 4's logits. -/
theorem lg4_B : (kernelRun0_B.sl.r_139 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 4 := rfl

/-- The running maximum after chunk 4. -/
theorem mx4_B : (kernelRun0_B.sl.r_158 c arg3 harg3 arg4 harg4 arg8 harg8 arg9 harg9 x2 x3 xs0 xs1)
    = cmax (kernelRun0_B.sl.r_139 c arg3 harg3 arg4 harg4 arg8 harg8 x2 x3 xs0) (kernelRun0_B.sl.r_126 c arg3 harg3 arg4 harg4 arg8 harg8 arg9 harg9 x2 x3 xs0 xs1) := rfl

/-- The running sum after chunk 4. -/
theorem sm4_B : (kernelRun0_B.sl.r_159 c arg3 harg3 arg4 harg4 arg8 harg8 arg9 harg9 arg10 harg10 x2 x3 xs0 xs1 xs2)
    = csum (kernelRun0_B.sl.r_139 c arg3 harg3 arg4 harg4 arg8 harg8 x2 x3 xs0) (kernelRun0_B.sl.r_126 c arg3 harg3 arg4 harg4 arg8 harg8 arg9 harg9 x2 x3 xs0 xs1) (kernelRun0_B.sl.r_127 c arg3 harg3 arg4 harg4 arg8 harg8 arg9 harg9 arg10 harg10 x2 x3 xs0 xs1 xs2) := rfl

/-- The label's logit after chunk 4. -/
theorem lb4_B : (kernelRun0_B.sl.r_160 c i arg1 harg1 arg3 harg3 arg4 harg4 arg8 harg8 arg11 harg11 x0 x2 x3 xs0 xs3)
    = clab (kernelRun0_B.sl.r c i arg1 harg1 x0) 4 (kernelRun0_B.sl.r_139 c arg3 harg3 arg4 harg4 arg8 harg8 x2 x3 xs0) (kernelRun0_B.sl.r_129 c i arg1 harg1 arg3 harg3 arg4 harg4 arg8 harg8 arg11 harg11 x0 x2 x3 xs0 xs3) := rfl

/-- Chunk 5's logits. -/
theorem lg5_B : (kernelRun0_B.sl.r_171 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 5 := rfl

/-- The running maximum after chunk 5. -/
theorem mx5_B : (kernelRun0_B.sl.r_189 c arg3 harg3 arg4 harg4 arg8 harg8 arg9 harg9 x2 x3 xs0 xs1)
    = cmax (kernelRun0_B.sl.r_171 c arg3 harg3 arg4 harg4 arg8 harg8 x2 x3 xs0) (kernelRun0_B.sl.r_158 c arg3 harg3 arg4 harg4 arg8 harg8 arg9 harg9 x2 x3 xs0 xs1) := rfl

/-- The running sum after chunk 5. -/
theorem sm5_B : (kernelRun0_B.sl.r_190 c arg3 harg3 arg4 harg4 arg8 harg8 arg9 harg9 arg10 harg10 x2 x3 xs0 xs1 xs2)
    = csum (kernelRun0_B.sl.r_171 c arg3 harg3 arg4 harg4 arg8 harg8 x2 x3 xs0) (kernelRun0_B.sl.r_158 c arg3 harg3 arg4 harg4 arg8 harg8 arg9 harg9 x2 x3 xs0 xs1) (kernelRun0_B.sl.r_159 c arg3 harg3 arg4 harg4 arg8 harg8 arg9 harg9 arg10 harg10 x2 x3 xs0 xs1 xs2) := rfl

/-- The label's logit after chunk 5. -/
theorem lb5_B : (kernelRun0_B.sl.r_192 c i arg1 harg1 arg3 harg3 arg4 harg4 arg8 harg8 arg11 harg11 x0 x2 x3 xs0 xs3)
    = clab (kernelRun0_B.sl.r c i arg1 harg1 x0) 5 (kernelRun0_B.sl.r_171 c arg3 harg3 arg4 harg4 arg8 harg8 x2 x3 xs0) (kernelRun0_B.sl.r_160 c i arg1 harg1 arg3 harg3 arg4 harg4 arg8 harg8 arg11 harg11 x0 x2 x3 xs0 xs3) := rfl

/-- Chunk 6's logits. -/
theorem lg6_B : (kernelRun0_B.sl.r_201 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 6 := rfl

/-- The running maximum after chunk 6. -/
theorem mx6_B : (kernelRun0_B.sl.r_220 c arg3 harg3 arg4 harg4 arg8 harg8 arg9 harg9 x2 x3 xs0 xs1)
    = cmax (kernelRun0_B.sl.r_201 c arg3 harg3 arg4 harg4 arg8 harg8 x2 x3 xs0) (kernelRun0_B.sl.r_189 c arg3 harg3 arg4 harg4 arg8 harg8 arg9 harg9 x2 x3 xs0 xs1) := rfl

/-- The running sum after chunk 6. -/
theorem sm6_B : (kernelRun0_B.sl.r_221 c arg3 harg3 arg4 harg4 arg8 harg8 arg9 harg9 arg10 harg10 x2 x3 xs0 xs1 xs2)
    = csum (kernelRun0_B.sl.r_201 c arg3 harg3 arg4 harg4 arg8 harg8 x2 x3 xs0) (kernelRun0_B.sl.r_189 c arg3 harg3 arg4 harg4 arg8 harg8 arg9 harg9 x2 x3 xs0 xs1) (kernelRun0_B.sl.r_190 c arg3 harg3 arg4 harg4 arg8 harg8 arg9 harg9 arg10 harg10 x2 x3 xs0 xs1 xs2) := rfl

/-- The label's logit after chunk 6. -/
theorem lb6_B : (kernelRun0_B.sl.r_222 c i arg1 harg1 arg3 harg3 arg4 harg4 arg8 harg8 arg11 harg11 x0 x2 x3 xs0 xs3)
    = clab (kernelRun0_B.sl.r c i arg1 harg1 x0) 6 (kernelRun0_B.sl.r_201 c arg3 harg3 arg4 harg4 arg8 harg8 x2 x3 xs0) (kernelRun0_B.sl.r_192 c i arg1 harg1 arg3 harg3 arg4 harg4 arg8 harg8 arg11 harg11 x0 x2 x3 xs0 xs3) := rfl

/-- Chunk 7's logits. -/
theorem lg7_B : (kernelRun0_B.sl.r_231 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 7 := rfl

/-- The running maximum after chunk 7. -/
theorem mx7_B : (kernelRun0_B.sl.r_249 c arg3 harg3 arg4 harg4 arg8 harg8 arg9 harg9 x2 x3 xs0 xs1)
    = cmax (kernelRun0_B.sl.r_231 c arg3 harg3 arg4 harg4 arg8 harg8 x2 x3 xs0) (kernelRun0_B.sl.r_220 c arg3 harg3 arg4 harg4 arg8 harg8 arg9 harg9 x2 x3 xs0 xs1) := rfl

/-- The running sum after chunk 7. -/
theorem sm7_B : (kernelRun0_B.sl.r_250 c arg3 harg3 arg4 harg4 arg8 harg8 arg9 harg9 arg10 harg10 x2 x3 xs0 xs1 xs2)
    = csum (kernelRun0_B.sl.r_231 c arg3 harg3 arg4 harg4 arg8 harg8 x2 x3 xs0) (kernelRun0_B.sl.r_220 c arg3 harg3 arg4 harg4 arg8 harg8 arg9 harg9 x2 x3 xs0 xs1) (kernelRun0_B.sl.r_221 c arg3 harg3 arg4 harg4 arg8 harg8 arg9 harg9 arg10 harg10 x2 x3 xs0 xs1 xs2) := rfl

/-- The label's logit after chunk 7. -/
theorem lb7_B : (k0_pay1 (kernelRun0_B.sl.r c i arg1 harg1 x0) (kernelRun0_B.sl.r_248 c arg3 harg3 arg4 harg4 arg8 harg8 x2 x3 xs0) (kernelRun0_B.sl.r_251 c i arg1 harg1 arg3 harg3 arg4 harg4 arg8 harg8 arg11 harg11 x0 x2 x3 xs0 xs3) 2032#32)
    = clab (kernelRun0_B.sl.r c i arg1 harg1 x0) 7 (kernelRun0_B.sl.r_231 c arg3 harg3 arg4 harg4 arg8 harg8 x2 x3 xs0) (kernelRun0_B.sl.r_222 c i arg1 harg1 arg3 harg3 arg4 harg4 arg8 harg8 arg11 harg11 x0 x2 x3 xs0 xs3) := rfl

/-- The running maximum after the tile. -/
theorem max_B : (kernelRun0_B.sl.r_249 c arg3 harg3 arg4 harg4 arg8 harg8 arg9 harg9 x2 x3 xs0 xs1)
    = pmax (rawTile arg3 harg3 arg4 harg4 x2 x3 (View.readAt (Elt F) arg8.view (Rect.unit (s := S1152x256) ![0, 0] ![1152, 256] inb_S1152x256_S1152x256_0_0).toLoadRect (harg8.unread xs0))) (kernelRun0_B.sl.r_1 c arg9 harg9 xs1) 8 := by
  rw [mx7_B, lg7_B, mx6_B, lg6_B, mx5_B, lg5_B, mx4_B, lg4_B, mx3_B, lg3_B, mx2_B, lg2_B, mx1_B, lg1_B, mx0_B, lg0_B]
  rfl

/-- The running sum after the tile. -/
theorem sum_B : (kernelRun0_B.sl.r_250 c arg3 harg3 arg4 harg4 arg8 harg8 arg9 harg9 arg10 harg10 x2 x3 xs0 xs1 xs2)
    = psum (rawTile arg3 harg3 arg4 harg4 x2 x3 (View.readAt (Elt F) arg8.view (Rect.unit (s := S1152x256) ![0, 0] ![1152, 256] inb_S1152x256_S1152x256_0_0).toLoadRect (harg8.unread xs0))) (kernelRun0_B.sl.r_1 c arg9 harg9 xs1) (kernelRun0_B.sl.r_2 c arg10 harg10 xs2) 8 := by
  rw [sm7_B, lg7_B, mx6_B, sm6_B, lg6_B, mx5_B, sm5_B, lg5_B, mx4_B, sm4_B, lg4_B, mx3_B, sm3_B, lg3_B, mx2_B, sm2_B, lg2_B, mx1_B, sm1_B, lg1_B, mx0_B, sm0_B, lg0_B]
  rfl

/-- The label's logit after the tile. -/
theorem lab_B : (k0_pay1 (kernelRun0_B.sl.r c i arg1 harg1 x0) (kernelRun0_B.sl.r_248 c arg3 harg3 arg4 harg4 arg8 harg8 x2 x3 xs0) (kernelRun0_B.sl.r_251 c i arg1 harg1 arg3 harg3 arg4 harg4 arg8 harg8 arg11 harg11 x0 x2 x3 xs0 xs3) 2032#32)
    = plab (rawTile arg3 harg3 arg4 harg4 x2 x3 (View.readAt (Elt F) arg8.view (Rect.unit (s := S1152x256) ![0, 0] ![1152, 256] inb_S1152x256_S1152x256_0_0).toLoadRect (harg8.unread xs0))) (kernelRun0_B.sl.r c i arg1 harg1 x0) (kernelRun0_B.sl.r_3 c arg11 harg11 xs3) 8 := by
  rw [lb7_B, lg7_B, lb6_B, lg6_B, lb5_B, lg5_B, lb4_B, lg4_B, lb3_B, lg3_B, lb2_B, lg2_B, lb1_B, lg1_B, lb0_B, lg0_B]
  rfl

end Cert.KernelIdeal.Point
-- ==== Proof.Point.OutB.lean ====
/- What the body leaves at a point between the first and the last, in the carried scratch and in the outputs it stores: the functions of
Point/Blk.lean of its blocks and of what it found. -/
module

public import proofs.«01_k».proof.Proof.KernelRun.Frame
public import proofs.«01_k».proof.Proof.Point.WordsB

@[expose] public section

set_option maxRecDepth 16384

noncomputable section

namespace Cert.KernelIdeal.Point

open Cert.KernelIdeal Cert.KernelIdeal.Gen Cert.KernelIdeal.Run
open Idealize.ShloMosaic Idealize.ShloMosaic.TcCoe Idealize.SL.Sem

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i)
  (x0 : Vec F S1x256 .i32) (x1 : Vec F S256x1152 .bf16) (x2 : Vec F S2048x1152 .fp8e4m3) (x3 : Vec F S36x2048 .i8) (xs0 : Vec F S1152x256 .bf16) (xs1 : Vec F S8x256 .f32) (xs2 : Vec F S8x256 .f32) (xs3 : Vec F S8x256 .f32)

/-- The labels relative to the point's rows. -/
theorem lr_B : (kernelRun0_B.sl.r c i arg1 harg1 x0) = k0_pay17 i x0 := by
  show k0_pay17 i (View.readAt (Elt F) arg1.view (Rect.unit (s := S1x256) ![0, 0] ![1, 256] inb_S1x256_S1x256_0_0).toLoadRect (harg1.unread x0)) = _
  rw [readAt_held, View.ld_unit_zero zeros2]

/-- The running maximum read. -/
theorem inr_1_B : (kernelRun0_B.sl.r_1 c arg9 harg9 xs1) = xs1 := by
  show View.readAt (Elt F) arg9.view (Rect.unit (s := S8x256) ![0, 0] ![8, 256] inb_S8x256_S8x256_0_0).toLoadRect (harg9.unread xs1) = _
  rw [readAt_held, View.ld_unit_zero zeros2]

/-- The running sum read. -/
theorem inr_2_B : (kernelRun0_B.sl.r_2 c arg10 harg10 xs2) = xs2 := by
  show View.readAt (Elt F) arg10.view (Rect.unit (s := S8x256) ![0, 0] ![8, 256] inb_S8x256_S8x256_0_0).toLoadRect (harg10.unread xs2) = _
  rw [readAt_held, View.ld_unit_zero zeros2]

/-- The label's logit read. -/
theorem inr_3_B : (kernelRun0_B.sl.r_3 c arg11 harg11 xs3) = xs3 := by
  show View.readAt (Elt F) arg11.view (Rect.unit (s := S8x256) ![0, 0] ![8, 256] inb_S8x256_S8x256_0_0).toLoadRect (harg11.unread xs3) = _
  rw [readAt_held, View.ld_unit_zero zeros2]

/-- The widened activations read back. -/
theorem inxt_B : View.readAt (Elt F) arg8.view (Rect.unit (s := S1152x256) ![0, 0] ![1152, 256] inb_S1152x256_S1152x256_0_0).toLoadRect (harg8.unread xs0) = xs0 := by
  rw [readAt_held, View.ld_unit_zero zeros2]

/-- The running maximum after all eight chunks. -/
theorem pmax_B : (kernelRun0_B.sl.r_249 c arg3 harg3 arg4 harg4 arg8 harg8 arg9 harg9 x2 x3 xs0 xs1) = pmax (tile x2 x3 xs0) xs1 8 := by
  rw [max_B, rawTile_eq, inxt_B, inr_1_B]

/-- The running sum after all eight chunks. -/
theorem psum_B : (kernelRun0_B.sl.r_250 c arg3 harg3 arg4 harg4 arg8 harg8 arg9 harg9 arg10 harg10 x2 x3 xs0 xs1 xs2) = psum (tile x2 x3 xs0) xs1 xs2 8 := by
  rw [sum_B, rawTile_eq, inxt_B, inr_1_B, inr_2_B]

/-- The label's logit after all eight chunks. -/
theorem plab_B : k0_pay1 (kernelRun0_B.sl.r c i arg1 harg1 x0) (kernelRun0_B.sl.r_248 c arg3 harg3 arg4 harg4 arg8 harg8 x2 x3 xs0) (kernelRun0_B.sl.r_251 c i arg1 harg1 arg3 harg3 arg4 harg4 arg8 harg8 arg11 harg11 x0 x2 x3 xs0 xs3) 2032#32 = plab (tile x2 x3 xs0) (k0_pay17 i x0) xs3 8 := by
  rw [lab_B, rawTile_eq, inxt_B, inr_3_B, lr_B]

/-- The running maximum it leaves. -/
theorem sout0_B_1_eq : sout0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = pmax (tile x2 x3 xs0) xs1 8 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  refine (View.canon_unit_zero zeros2 _ _).trans ?_
  exact (shapeCast_self _ _).trans (pmax_B ..)

/-- The running sum it leaves. -/
theorem sout0_B_2_eq : sout0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = psum (tile x2 x3 xs0) xs1 xs2 8 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  refine (View.canon_unit_zero zeros2 _ _).trans ?_
  exact (shapeCast_self _ _).trans (psum_B ..)

/-- The label's logit it leaves. -/
theorem sout0_B_3_eq : sout0_B_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = plab (tile x2 x3 xs0) (k0_pay17 i x0) xs3 8 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  refine (View.canon_unit_zero zeros2 _ _).trans ?_
  exact (shapeCast_self _ _).trans (plab_B ..)

end Cert.KernelIdeal.Point
-- ==== Proof.Point.WordsC.lean ====
/- The running maximum, sum and label logit the kernel's body computes at the grid's last point, chunk by chunk, as the functions of
Point/Blk.lean of its blocks. -/
module

public import proofs.«01_k».proof.Proof.KernelRun.RunC
public import proofs.«01_k».proof.Proof.Point.Raw

@[expose] public section

set_option maxRecDepth 16384

noncomputable section

namespace Cert.KernelIdeal.Point

open Cert.KernelIdeal Cert.KernelIdeal.Gen Cert.KernelIdeal.Run
open Idealize.ShloMosaic Idealize.ShloMosaic.TcCoe

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole)
  (x0 : Vec F S1x256 .i32) (x1 : Vec F S256x1152 .bf16) (x2 : Vec F S2048x1152 .fp8e4m3) (x3 : Vec F S36x2048 .i8) (xs0 : Vec F S1152x256 .bf16) (xs1 xs2 xs3 : Vec F S8x256 .f32)

/-! Each chunk's logits, and the running maximum, sum and label logit after it, from those before it. -/

/-- Chunk 0's logits. -/
theorem lg0_C : (kernelRun0_C.sl.r_14 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 0 := rfl

/-- The running maximum after chunk 0. -/
theorem mx0_C : (kernelRun0_C.sl.r_32 c arg3 harg3 arg4 harg4 arg8 harg8 arg9 harg9 x2 x3 xs0 xs1)
    = cmax (kernelRun0_C.sl.r_14 c arg3 harg3 arg4 harg4 arg8 harg8 x2 x3 xs0) (kernelRun0_C.sl.r_1 c arg9 harg9 xs1) := rfl

/-- The running sum after chunk 0. -/
theorem sm0_C : (kernelRun0_C.sl.r_33 c arg3 harg3 arg4 harg4 arg8 harg8 arg9 harg9 arg10 harg10 x2 x3 xs0 xs1 xs2)
    = csum (kernelRun0_C.sl.r_14 c arg3 harg3 arg4 harg4 arg8 harg8 x2 x3 xs0) (kernelRun0_C.sl.r_1 c arg9 harg9 xs1) (kernelRun0_C.sl.r_2 c arg10 harg10 xs2) := rfl

/-- The label's logit after chunk 0. -/
theorem lb0_C : (kernelRun0_C.sl.r_35 c i arg1 harg1 arg3 harg3 arg4 harg4 arg8 harg8 arg11 harg11 x0 x2 x3 xs0 xs3)
    = clab (kernelRun0_C.sl.r c i arg1 harg1 x0) 0 (kernelRun0_C.sl.r_14 c arg3 harg3 arg4 harg4 arg8 harg8 x2 x3 xs0) (kernelRun0_C.sl.r_3 c arg11 harg11 xs3) := rfl

/-- Chunk 1's logits. -/
theorem lg1_C : (kernelRun0_C.sl.r_44 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 1 := rfl

/-- The running maximum after chunk 1. -/
theorem mx1_C : (kernelRun0_C.sl.r_63 c arg3 harg3 arg4 harg4 arg8 harg8 arg9 harg9 x2 x3 xs0 xs1)
    = cmax (kernelRun0_C.sl.r_44 c arg3 harg3 arg4 harg4 arg8 harg8 x2 x3 xs0) (kernelRun0_C.sl.r_32 c arg3 harg3 arg4 harg4 arg8 harg8 arg9 harg9 x2 x3 xs0 xs1) := rfl

/-- The running sum after chunk 1. -/
theorem sm1_C : (kernelRun0_C.sl.r_64 c arg3 harg3 arg4 harg4 arg8 harg8 arg9 harg9 arg10 harg10 x2 x3 xs0 xs1 xs2)
    = csum (kernelRun0_C.sl.r_44 c arg3 harg3 arg4 harg4 arg8 harg8 x2 x3 xs0) (kernelRun0_C.sl.r_32 c arg3 harg3 arg4 harg4 arg8 harg8 arg9 harg9 x2 x3 xs0 xs1) (kernelRun0_C.sl.r_33 c arg3 harg3 arg4 harg4 arg8 harg8 arg9 harg9 arg10 harg10 x2 x3 xs0 xs1 xs2) := rfl

/-- The label's logit after chunk 1. -/
theorem lb1_C : (kernelRun0_C.sl.r_65 c i arg1 harg1 arg3 harg3 arg4 harg4 arg8 harg8 arg11 harg11 x0 x2 x3 xs0 xs3)
    = clab (kernelRun0_C.sl.r c i arg1 harg1 x0) 1 (kernelRun0_C.sl.r_44 c arg3 harg3 arg4 harg4 arg8 harg8 x2 x3 xs0) (kernelRun0_C.sl.r_35 c i arg1 harg1 arg3 harg3 arg4 harg4 arg8 harg8 arg11 harg11 x0 x2 x3 xs0 xs3) := rfl

/-- Chunk 2's logits. -/
theorem lg2_C : (kernelRun0_C.sl.r_74 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 2 := rfl

/-- The running maximum after chunk 2. -/
theorem mx2_C : (kernelRun0_C.sl.r_92 c arg3 harg3 arg4 harg4 arg8 harg8 arg9 harg9 x2 x3 xs0 xs1)
    = cmax (kernelRun0_C.sl.r_74 c arg3 harg3 arg4 harg4 arg8 harg8 x2 x3 xs0) (kernelRun0_C.sl.r_63 c arg3 harg3 arg4 harg4 arg8 harg8 arg9 harg9 x2 x3 xs0 xs1) := rfl

/-- The running sum after chunk 2. -/
theorem sm2_C : (kernelRun0_C.sl.r_93 c arg3 harg3 arg4 harg4 arg8 harg8 arg9 harg9 arg10 harg10 x2 x3 xs0 xs1 xs2)
    = csum (kernelRun0_C.sl.r_74 c arg3 harg3 arg4 harg4 arg8 harg8 x2 x3 xs0) (kernelRun0_C.sl.r_63 c arg3 harg3 arg4 harg4 arg8 harg8 arg9 harg9 x2 x3 xs0 xs1) (kernelRun0_C.sl.r_64 c arg3 harg3 arg4 harg4 arg8 harg8 arg9 harg9 arg10 harg10 x2 x3 xs0 xs1 xs2) := rfl

/-- The label's logit after chunk 2. -/
theorem lb2_C : (kernelRun0_C.sl.r_95 c i arg1 harg1 arg3 harg3 arg4 harg4 arg8 harg8 arg11 harg11 x0 x2 x3 xs0 xs3)
    = clab (kernelRun0_C.sl.r c i arg1 harg1 x0) 2 (kernelRun0_C.sl.r_74 c arg3 harg3 arg4 harg4 arg8 harg8 x2 x3 xs0) (kernelRun0_C.sl.r_65 c i arg1 harg1 arg3 harg3 arg4 harg4 arg8 harg8 arg11 harg11 x0 x2 x3 xs0 xs3) := rfl

/-- Chunk 3's logits. -/
theorem lg3_C : (kernelRun0_C.sl.r_108 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 3 := rfl

/-- The running maximum after chunk 3. -/
theorem mx3_C : (kernelRun0_C.sl.r_126 c arg3 harg3 arg4 harg4 arg8 harg8 arg9 harg9 x2 x3 xs0 xs1)
    = cmax (kernelRun0_C.sl.r_108 c arg3 harg3 arg4 harg4 arg8 harg8 x2 x3 xs0) (kernelRun0_C.sl.r_92 c arg3 harg3 arg4 harg4 arg8 harg8 arg9 harg9 x2 x3 xs0 xs1) := rfl

/-- The running sum after chunk 3. -/
theorem sm3_C : (kernelRun0_C.sl.r_127 c arg3 harg3 arg4 harg4 arg8 harg8 arg9 harg9 arg10 harg10 x2 x3 xs0 xs1 xs2)
    = csum (kernelRun0_C.sl.r_108 c arg3 harg3 arg4 harg4 arg8 harg8 x2 x3 xs0) (kernelRun0_C.sl.r_92 c arg3 harg3 arg4 harg4 arg8 harg8 arg9 harg9 x2 x3 xs0 xs1) (kernelRun0_C.sl.r_93 c arg3 harg3 arg4 harg4 arg8 harg8 arg9 harg9 arg10 harg10 x2 x3 xs0 xs1 xs2) := rfl

/-- The label's logit after chunk 3. -/
theorem lb3_C : (kernelRun0_C.sl.r_129 c i arg1 harg1 arg3 harg3 arg4 harg4 arg8 harg8 arg11 harg11 x0 x2 x3 xs0 xs3)
    = clab (kernelRun0_C.sl.r c i arg1 harg1 x0) 3 (kernelRun0_C.sl.r_108 c arg3 harg3 arg4 harg4 arg8 harg8 x2 x3 xs0) (kernelRun0_C.sl.r_95 c i arg1 harg1 arg3 harg3 arg4 harg4 arg8 harg8 arg11 harg11 x0 x2 x3 xs0 xs3) := rfl

/-- Chunk 4's logits. -/
theorem lg4_C : (kernelRun0_C.sl.r_139 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 4 := rfl

/-- The running maximum after chunk 4. -/
theorem mx4_C : (kernelRun0_C.sl.r_158 c arg3 harg3 arg4 harg4 arg8 harg8 arg9 harg9 x2 x3 xs0 xs1)
    = cmax (kernelRun0_C.sl.r_139 c arg3 harg3 arg4 harg4 arg8 harg8 x2 x3 xs0) (kernelRun0_C.sl.r_126 c arg3 harg3 arg4 harg4 arg8 harg8 arg9 harg9 x2 x3 xs0 xs1) := rfl

/-- The running sum after chunk 4. -/
theorem sm4_C : (kernelRun0_C.sl.r_159 c arg3 harg3 arg4 harg4 arg8 harg8 arg9 harg9 arg10 harg10 x2 x3 xs0 xs1 xs2)
    = csum (kernelRun0_C.sl.r_139 c arg3 harg3 arg4 harg4 arg8 harg8 x2 x3 xs0) (kernelRun0_C.sl.r_126 c arg3 harg3 arg4 harg4 arg8 harg8 arg9 harg9 x2 x3 xs0 xs1) (kernelRun0_C.sl.r_127 c arg3 harg3 arg4 harg4 arg8 harg8 arg9 harg9 arg10 harg10 x2 x3 xs0 xs1 xs2) := rfl

/-- The label's logit after chunk 4. -/
theorem lb4_C : (kernelRun0_C.sl.r_160 c i arg1 harg1 arg3 harg3 arg4 harg4 arg8 harg8 arg11 harg11 x0 x2 x3 xs0 xs3)
    = clab (kernelRun0_C.sl.r c i arg1 harg1 x0) 4 (kernelRun0_C.sl.r_139 c arg3 harg3 arg4 harg4 arg8 harg8 x2 x3 xs0) (kernelRun0_C.sl.r_129 c i arg1 harg1 arg3 harg3 arg4 harg4 arg8 harg8 arg11 harg11 x0 x2 x3 xs0 xs3) := rfl

/-- Chunk 5's logits. -/
theorem lg5_C : (kernelRun0_C.sl.r_171 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 5 := rfl

/-- The running maximum after chunk 5. -/
theorem mx5_C : (kernelRun0_C.sl.r_189 c arg3 harg3 arg4 harg4 arg8 harg8 arg9 harg9 x2 x3 xs0 xs1)
    = cmax (kernelRun0_C.sl.r_171 c arg3 harg3 arg4 harg4 arg8 harg8 x2 x3 xs0) (kernelRun0_C.sl.r_158 c arg3 harg3 arg4 harg4 arg8 harg8 arg9 harg9 x2 x3 xs0 xs1) := rfl

/-- The running sum after chunk 5. -/
theorem sm5_C : (kernelRun0_C.sl.r_190 c arg3 harg3 arg4 harg4 arg8 harg8 arg9 harg9 arg10 harg10 x2 x3 xs0 xs1 xs2)
    = csum (kernelRun0_C.sl.r_171 c arg3 harg3 arg4 harg4 arg8 harg8 x2 x3 xs0) (kernelRun0_C.sl.r_158 c arg3 harg3 arg4 harg4 arg8 harg8 arg9 harg9 x2 x3 xs0 xs1) (kernelRun0_C.sl.r_159 c arg3 harg3 arg4 harg4 arg8 harg8 arg9 harg9 arg10 harg10 x2 x3 xs0 xs1 xs2) := rfl

/-- The label's logit after chunk 5. -/
theorem lb5_C : (kernelRun0_C.sl.r_192 c i arg1 harg1 arg3 harg3 arg4 harg4 arg8 harg8 arg11 harg11 x0 x2 x3 xs0 xs3)
    = clab (kernelRun0_C.sl.r c i arg1 harg1 x0) 5 (kernelRun0_C.sl.r_171 c arg3 harg3 arg4 harg4 arg8 harg8 x2 x3 xs0) (kernelRun0_C.sl.r_160 c i arg1 harg1 arg3 harg3 arg4 harg4 arg8 harg8 arg11 harg11 x0 x2 x3 xs0 xs3) := rfl

/-- Chunk 6's logits. -/
theorem lg6_C : (kernelRun0_C.sl.r_201 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 6 := rfl

/-- The running maximum after chunk 6. -/
theorem mx6_C : (kernelRun0_C.sl.r_220 c arg3 harg3 arg4 harg4 arg8 harg8 arg9 harg9 x2 x3 xs0 xs1)
    = cmax (kernelRun0_C.sl.r_201 c arg3 harg3 arg4 harg4 arg8 harg8 x2 x3 xs0) (kernelRun0_C.sl.r_189 c arg3 harg3 arg4 harg4 arg8 harg8 arg9 harg9 x2 x3 xs0 xs1) := rfl

/-- The running sum after chunk 6. -/
theorem sm6_C : (kernelRun0_C.sl.r_221 c arg3 harg3 arg4 harg4 arg8 harg8 arg9 harg9 arg10 harg10 x2 x3 xs0 xs1 xs2)
    = csum (kernelRun0_C.sl.r_201 c arg3 harg3 arg4 harg4 arg8 harg8 x2 x3 xs0) (kernelRun0_C.sl.r_189 c arg3 harg3 arg4 harg4 arg8 harg8 arg9 harg9 x2 x3 xs0 xs1) (kernelRun0_C.sl.r_190 c arg3 harg3 arg4 harg4 arg8 harg8 arg9 harg9 arg10 harg10 x2 x3 xs0 xs1 xs2) := rfl

/-- The label's logit after chunk 6. -/
theorem lb6_C : (kernelRun0_C.sl.r_222 c i arg1 harg1 arg3 harg3 arg4 harg4 arg8 harg8 arg11 harg11 x0 x2 x3 xs0 xs3)
    = clab (kernelRun0_C.sl.r c i arg1 harg1 x0) 6 (kernelRun0_C.sl.r_201 c arg3 harg3 arg4 harg4 arg8 harg8 x2 x3 xs0) (kernelRun0_C.sl.r_192 c i arg1 harg1 arg3 harg3 arg4 harg4 arg8 harg8 arg11 harg11 x0 x2 x3 xs0 xs3) := rfl

/-- Chunk 7's logits. -/
theorem lg7_C : (kernelRun0_C.sl.r_231 c arg3 harg3 arg4 harg4 arg8 harg8 x2 x3 xs0)
    = rawTile arg3 harg3 arg4 harg4 x2 x3 (View.readAt (Elt F) arg8.view (Rect.unit (s := S1152x256) ![0, 0] ![1152, 256] inb_S1152x256_S1152x256_0_0).toLoadRect (harg8.unread xs0)) 7 := rfl

/-- The running maximum after chunk 7. -/
theorem mx7_C : (kernelRun0_C.sl.r_249 c arg3 harg3 arg4 harg4 arg8 harg8 arg9 harg9 x2 x3 xs0 xs1)
    = cmax (kernelRun0_C.sl.r_231 c arg3 harg3 arg4 harg4 arg8 harg8 x2 x3 xs0) (kernelRun0_C.sl.r_220 c arg3 harg3 arg4 harg4 arg8 harg8 arg9 harg9 x2 x3 xs0 xs1) := rfl

/-- The running sum after chunk 7. -/
theorem sm7_C : (kernelRun0_C.sl.r_250 c arg3 harg3 arg4 harg4 arg8 harg8 arg9 harg9 arg10 harg10 x2 x3 xs0 xs1 xs2)
    = csum (kernelRun0_C.sl.r_231 c arg3 harg3 arg4 harg4 arg8 harg8 x2 x3 xs0) (kernelRun0_C.sl.r_220 c arg3 harg3 arg4 harg4 arg8 harg8 arg9 harg9 x2 x3 xs0 xs1) (kernelRun0_C.sl.r_221 c arg3 harg3 arg4 harg4 arg8 harg8 arg9 harg9 arg10 harg10 x2 x3 xs0 xs1 xs2) := rfl

/-- The label's logit after chunk 7. -/
theorem lb7_C : (k0_pay1 (kernelRun0_C.sl.r c i arg1 harg1 x0) (kernelRun0_C.sl.r_248 c arg3 harg3 arg4 harg4 arg8 harg8 x2 x3 xs0) (kernelRun0_C.sl.r_251 c i arg1 harg1 arg3 harg3 arg4 harg4 arg8 harg8 arg11 harg11 x0 x2 x3 xs0 xs3) 2032#32)
    = clab (kernelRun0_C.sl.r c i arg1 harg1 x0) 7 (kernelRun0_C.sl.r_231 c arg3 harg3 arg4 harg4 arg8 harg8 x2 x3 xs0) (kernelRun0_C.sl.r_222 c i arg1 harg1 arg3 harg3 arg4 harg4 arg8 harg8 arg11 harg11 x0 x2 x3 xs0 xs3) := rfl

/-- The running maximum after the tile. -/
theorem max_C : (kernelRun0_C.sl.r_249 c arg3 harg3 arg4 harg4 arg8 harg8 arg9 harg9 x2 x3 xs0 xs1)
    = pmax (rawTile arg3 harg3 arg4 harg4 x2 x3 (View.readAt (Elt F) arg8.view (Rect.unit (s := S1152x256) ![0, 0] ![1152, 256] inb_S1152x256_S1152x256_0_0).toLoadRect (harg8.unread xs0))) (kernelRun0_C.sl.r_1 c arg9 harg9 xs1) 8 := by
  rw [mx7_C, lg7_C, mx6_C, lg6_C, mx5_C, lg5_C, mx4_C, lg4_C, mx3_C, lg3_C, mx2_C, lg2_C, mx1_C, lg1_C, mx0_C, lg0_C]
  rfl

/-- The running sum after the tile. -/
theorem sum_C : (kernelRun0_C.sl.r_250 c arg3 harg3 arg4 harg4 arg8 harg8 arg9 harg9 arg10 harg10 x2 x3 xs0 xs1 xs2)
    = psum (rawTile arg3 harg3 arg4 harg4 x2 x3 (View.readAt (Elt F) arg8.view (Rect.unit (s := S1152x256) ![0, 0] ![1152, 256] inb_S1152x256_S1152x256_0_0).toLoadRect (harg8.unread xs0))) (kernelRun0_C.sl.r_1 c arg9 harg9 xs1) (kernelRun0_C.sl.r_2 c arg10 harg10 xs2) 8 := by
  rw [sm7_C, lg7_C, mx6_C, sm6_C, lg6_C, mx5_C, sm5_C, lg5_C, mx4_C, sm4_C, lg4_C, mx3_C, sm3_C, lg3_C, mx2_C, sm2_C, lg2_C, mx1_C, sm1_C, lg1_C, mx0_C, sm0_C, lg0_C]
  rfl

/-- The label's logit after the tile. -/
theorem lab_C : (k0_pay1 (kernelRun0_C.sl.r c i arg1 harg1 x0) (kernelRun0_C.sl.r_248 c arg3 harg3 arg4 harg4 arg8 harg8 x2 x3 xs0) (kernelRun0_C.sl.r_251 c i arg1 harg1 arg3 harg3 arg4 harg4 arg8 harg8 arg11 harg11 x0 x2 x3 xs0 xs3) 2032#32)
    = plab (rawTile arg3 harg3 arg4 harg4 x2 x3 (View.readAt (Elt F) arg8.view (Rect.unit (s := S1152x256) ![0, 0] ![1152, 256] inb_S1152x256_S1152x256_0_0).toLoadRect (harg8.unread xs0))) (kernelRun0_C.sl.r c i arg1 harg1 x0) (kernelRun0_C.sl.r_3 c arg11 harg11 xs3) 8 := by
  rw [lb7_C, lg7_C, lb6_C, lg6_C, lb5_C, lg5_C, lb4_C, lg4_C, lb3_C, lg3_C, lb2_C, lg2_C, lb1_C, lg1_C, lb0_C, lg0_C]
  rfl

end Cert.KernelIdeal.Point
-- ==== Proof.Point.OutC.lean ====
/- What the body leaves at the grid's last point, in the carried scratch and in the outputs it stores: the functions of
Point/Blk.lean of its blocks and of what it found. -/
module

public import proofs.«01_k».proof.Proof.KernelRun.Frame
public import proofs.«01_k».proof.Proof.Point.WordsC

@[expose] public section

set_option maxRecDepth 16384

noncomputable section

namespace Cert.KernelIdeal.Point

open Cert.KernelIdeal Cert.KernelIdeal.Gen Cert.KernelIdeal.Run
open Idealize.ShloMosaic Idealize.ShloMosaic.TcCoe Idealize.SL.Sem

variable {F : FTy → Type} [FloatOps F]
variable (c : Dev nD) (i : grid0.Coords) (arg1 : Memref sig .tc .vmem S1x256 .i32) (harg1 : arg1.IsWhole) (arg2 : Memref sig .tc .vmem S256x1152 .bf16) (harg2 : arg2.IsWhole) (arg3 : Memref sig .tc .vmem S2048x1152 .fp8e4m3) (harg3 : arg3.IsWhole) (arg4 : Memref sig .tc .vmem S36x2048 .i8) (harg4 : arg4.IsWhole) (arg5 : Memref sig .tc .vmem S1x256 .f32) (harg5 : arg5.IsWhole) (arg6 : Memref sig .tc .vmem S256x1152 .fp8e4m3) (harg6 : arg6.IsWhole) (arg7 : Memref sig .tc .vmem S256x36 .i8) (harg7 : arg7.IsWhole) (arg8 : Memref sig .tc .vmem S1152x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i)
  (x0 : Vec F S1x256 .i32) (x1 : Vec F S256x1152 .bf16) (x2 : Vec F S2048x1152 .fp8e4m3) (x3 : Vec F S36x2048 .i8) (xo5 : Vec F S256x1152 .fp8e4m3) (xo6 : Vec F S256x36 .i8) (xs0 : Vec F S1152x256 .bf16) (xs1 : Vec F S8x256 .f32) (xs2 : Vec F S8x256 .f32) (xs3 : Vec F S8x256 .f32)

/-- The labels relative to the point's rows. -/
theorem lr_C : (kernelRun0_C.sl.r c i arg1 harg1 x0) = k0_pay17 i x0 := by
  show k0_pay17 i (View.readAt (Elt F) arg1.view (Rect.unit (s := S1x256) ![0, 0] ![1, 256] inb_S1x256_S1x256_0_0).toLoadRect (harg1.unread x0)) = _
  rw [readAt_held, View.ld_unit_zero zeros2]

/-- The running maximum read. -/
theorem inr_1_C : (kernelRun0_C.sl.r_1 c arg9 harg9 xs1) = xs1 := by
  show View.readAt (Elt F) arg9.view (Rect.unit (s := S8x256) ![0, 0] ![8, 256] inb_S8x256_S8x256_0_0).toLoadRect (harg9.unread xs1) = _
  rw [readAt_held, View.ld_unit_zero zeros2]

/-- The running sum read. -/
theorem inr_2_C : (kernelRun0_C.sl.r_2 c arg10 harg10 xs2) = xs2 := by
  show View.readAt (Elt F) arg10.view (Rect.unit (s := S8x256) ![0, 0] ![8, 256] inb_S8x256_S8x256_0_0).toLoadRect (harg10.unread xs2) = _
  rw [readAt_held, View.ld_unit_zero zeros2]

/-- The label's logit read. -/
theorem inr_3_C : (kernelRun0_C.sl.r_3 c arg11 harg11 xs3) = xs3 := by
  show View.readAt (Elt F) arg11.view (Rect.unit (s := S8x256) ![0, 0] ![8, 256] inb_S8x256_S8x256_0_0).toLoadRect (harg11.unread xs3) = _
  rw [readAt_held, View.ld_unit_zero zeros2]

/-- The widened activations read back. -/
theorem inxt_C : View.readAt (Elt F) arg8.view (Rect.unit (s := S1152x256) ![0, 0] ![1152, 256] inb_S1152x256_S1152x256_0_0).toLoadRect (harg8.unread xs0) = xs0 := by
  rw [readAt_held, View.ld_unit_zero zeros2]

/-- The running maximum after all eight chunks. -/
theorem pmax_C : (kernelRun0_C.sl.r_249 c arg3 harg3 arg4 harg4 arg8 harg8 arg9 harg9 x2 x3 xs0 xs1) = pmax (tile x2 x3 xs0) xs1 8 := by
  rw [max_C, rawTile_eq, inxt_C, inr_1_C]

/-- The running sum after all eight chunks. -/
theorem psum_C : (kernelRun0_C.sl.r_250 c arg3 harg3 arg4 harg4 arg8 harg8 arg9 harg9 arg10 harg10 x2 x3 xs0 xs1 xs2) = psum (tile x2 x3 xs0) xs1 xs2 8 := by
  rw [sum_C, rawTile_eq, inxt_C, inr_1_C, inr_2_C]

/-- The label's logit after all eight chunks. -/
theorem plab_C : k0_pay1 (kernelRun0_C.sl.r c i arg1 harg1 x0) (kernelRun0_C.sl.r_248 c arg3 harg3 arg4 harg4 arg8 harg8 x2 x3 xs0) (kernelRun0_C.sl.r_251 c i arg1 harg1 arg3 harg3 arg4 harg4 arg8 harg8 arg11 harg11 x0 x2 x3 xs0 xs3) 2032#32 = plab (tile x2 x3 xs0) (k0_pay17 i x0) xs3 8 := by
  rw [lab_C, rawTile_eq, inxt_C, inr_3_C, lr_C]

/-- The running maximum it leaves. -/
theorem sout0_C_1_eq : sout0_C_1 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3 = pmax (tile x2 x3 xs0) xs1 8 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3)]
  unfold kernelRun0_C
  refine (View.canon_unit_zero zeros2 _ _).trans ?_
  exact (shapeCast_self _ _).trans (pmax_C ..)

/-- The running sum it leaves. -/
theorem sout0_C_2_eq : sout0_C_2 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3 = psum (tile x2 x3 xs0) xs1 xs2 8 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3)]
  unfold kernelRun0_C
  refine (View.canon_unit_zero zeros2 _ _).trans ?_
  exact (shapeCast_self _ _).trans (psum_C ..)

/-- The label's logit it leaves. -/
theorem sout0_C_3_eq : sout0_C_3 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3 = plab (tile x2 x3 xs0) (k0_pay17 i x0) xs3 8 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3)]
  unfold kernelRun0_C
  refine (View.canon_unit_zero zeros2 _ _).trans ?_
  exact (shapeCast_self _ _).trans (plab_C ..)

/-- The loss it stores. -/
theorem out0_C_4_eq : out0_C_4 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3 = loss (pmax (tile x2 x3 xs0) xs1 8) (psum (tile x2 x3 xs0) xs1 xs2 8) (plab (tile x2 x3 xs0) (k0_pay17 i x0) xs3 8) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 x2 x3 xo5 xo6 xs0 xs1 xs2 xs3)]
  unfold kernelRun0_C
  refine (View.canon_unit_zero zeros2 _ _).trans ?_
  rw [← pmax_C c arg3 harg3 arg4 harg4 arg8 harg8 arg9 harg9, ← psum_C c arg3 harg3 arg4 harg4 arg8 harg8 arg9 harg9 arg10 harg10, ← plab_C c i arg1 harg1 arg3 harg3 arg4 harg4 arg8 harg8 arg11 harg11]
  rfl

end Cert.KernelIdeal.Point
-- ==== Proof.Maths.Exponent.lean ====
/- The quantiser's shared exponent, over the extended reals: the exponent found by counting the powers of two above a
number is the exponent found from its logarithm, and a power of two read off a word's exponent field is the power. -/
module

public import Idealize.ShloMosaic.PureOps.Ideal.Laws
public import Idealize.ShloMosaic.Lib.IndicatorCount

@[expose] public section

noncomputable section

namespace Cert.Maths

open Idealize.ShloMosaic

/-- The float whose exponent field is `b` and whose other bits are zero: zero, a power of two, or infinity. -/
def pw (b : ℕ) : EReal := if b = 255 then ⊤ else if b = 0 then 0 else (((2 : ℝ) ^ ((b : ℤ) - 127) : ℝ) : EReal)

/-- The bits of the word with exponent field `b`: sign zero, exponent `b`, fraction zero. -/
theorem field_bits : ∀ b : Fin 256,
    ((IntOp.shli .vector (BitVec.ofNat 32 b.val) 23#32).extractLsb' 31 1 == 1#1) = false
      ∧ ((IntOp.shli .vector (BitVec.ofNat 32 b.val) 23#32).extractLsb' 23 8).toNat = b.val
      ∧ ((IntOp.shli .vector (BitVec.ofNat 32 b.val) 23#32).extractLsb' 0 23).toNat = 0 := by
  decide +kernel

/-- A normal float's value, from its parts. -/
theorem normal_value (b : ℕ) :
    ((1 : ℝ) * ((2 ^ 23 + 0 : ℕ) : ℝ) * (2 : ℝ) ^ ((b : ℤ) - (2 ^ (8 - 1) - 1) - ((23 : ℕ) : ℤ))) = (2 : ℝ) ^ ((b : ℤ) - 127) := by
  rw [one_mul, Nat.add_zero, Nat.cast_pow, ← zpow_natCast, Nat.cast_ofNat, ← zpow_add₀ (two_ne_zero)]
  congr 1
  norm_num

/-- The word with exponent field `b` and other bits zero is read as that float. -/
theorem ofBits_field (b : ℕ) (h : b < 256) : Ideal.ofBits .f32 (IntOp.shli .vector (BitVec.ofNat 32 b) 23#32) = pw b := by
  obtain ⟨h1, h2, h3⟩ := field_bits ⟨b, h⟩
  simp only at h1 h2 h3
  show Ideal.ieee 8 23 _ = _
  generalize IntOp.shli .vector (BitVec.ofNat 32 b) 23#32 = w at h1 h2 h3 ⊢
  unfold Ideal.ieee
  rw [show (w.extractLsb' (8 + 23) 1 == 1#1) = false from h1, h2, h3]
  unfold pw
  by_cases hb : b = 255
  · subst hb
    simp
  · by_cases h0 : b = 0
    · subst h0
      simp
    · rw [if_neg hb, if_neg h0]
      have hb' : ¬ b = 2 ^ 8 - 1 := hb
      simp only [if_neg hb', if_neg h0, Bool.false_eq_true, if_false]
      congr 1
      exact normal_value b

/-- The exponent by counting: the kernel's word. -/
def kexp (q : EReal) : BitVec 32 :=
  let e := IntOp.subi (IntOp.subi 255#32 ((Finset.univ : Finset (Fin 255)).fold IntOp.addi 0#32 fun k =>
    (Ideal.cmp .olt q (Ideal.ofBits .f32 (IntOp.shli .vector (IntOp.addi (BitVec.ofNat 32 k.val) 1#32) 23#32))).setWidth 32)) 126#32
  if IntOp.ori (Ideal.cmp .oeq q 0) (IntOp.cmpi .sgt e 128#32) = 1#1 then 0#32 else e

/-- The exponent by the logarithm: the reference's word. -/
def rexp (a c : EReal) : BitVec 32 :=
  Ideal.fptosi 32 (if IntOp.ori (Ideal.cmp .oeq a 0) (Ideal.cmp .oeq a ⊤) = 1#1 then 0
    else max (Ideal.liftRound Int.floor (Ideal.div (Ideal.log (a * c)) ((Real.log 2 : ℝ) : EReal)) + 1) ((-126 : ℝ) : EReal))

/-- The exponent of a positive real: one above the floor of its logarithm to base two, at least `-126`. -/
def ez (q : ℝ) : ℤ := max (⌊Real.log q / Real.log 2⌋ + 1) (-126)

/-- A positive number is below a power of two exactly if the floor of its binary logarithm is below the exponent. -/
theorem lt_zpow_iff {q : ℝ} (h : 0 < q) (k : ℤ) : q < (2 : ℝ) ^ k ↔ ⌊Real.log q / Real.log 2⌋ < k := by
  have hl : (0 : ℝ) < Real.log 2 := Real.log_pos (by norm_num)
  rw [Int.floor_lt, div_lt_iff₀ hl, ← Real.log_zpow, Real.log_lt_log_iff h (by positivity)]

/-- The exponent of a number below 2^120 is at most 120. -/
theorem ez_le {q : ℝ} (h : 0 < q) (hq : q < (2 : ℝ) ^ (120 : ℤ)) : ez q ≤ 120 := by
  have := (lt_zpow_iff h 120).mp hq
  unfold ez
  omega

/-- An exponent is at least -126. -/
theorem le_ez (q : ℝ) : -126 ≤ ez q := le_max_right _ _

/-- Of the 255 floats with exponent fields `1` to `255`, how many lie above a positive real. -/
theorem count_above {q : ℝ} (h : 0 < q) (hq : q < (2 : ℝ) ^ (120 : ℤ)) :
    ((((Finset.univ : Finset (Fin 255)).filter fun k => Ideal.cmp .olt (q : EReal) (pw (k.val + 1)) = 1#1).card : ℕ) : ℤ)
      = 129 - ez q := by
  have hp : ∀ k : Fin 255, (Ideal.cmp .olt (q : EReal) (pw (k.val + 1)) = 1#1) ↔ (ez q + 126 ≤ (k.val : ℤ)) := by
    intro k
    have hc : (Ideal.cmp .olt (q : EReal) (pw (k.val + 1)) = 1#1) ↔ (q : EReal) < pw (k.val + 1) := by
      unfold Ideal.cmp
      by_cases hlt : (q : EReal) < pw (k.val + 1) <;> simp [hlt]
    rw [hc]
    unfold pw
    by_cases hk : k.val + 1 = 255
    · rw [if_pos hk]
      have := ez_le h hq
      constructor
      · intro _; omega
      · intro _; exact EReal.coe_lt_top _
    · rw [if_neg hk, if_neg (by omega), EReal.coe_lt_coe_iff, lt_zpow_iff h]
      unfold ez
      push_cast
      omega
  simp only [hp]
  have h1 := ez_le h hq
  have h2 := le_ez q
  have hs : ((Finset.univ : Finset (Fin 255)).filter fun k => ez q + 126 ≤ (k.val : ℤ))
      = Finset.Ici (⟨(ez q + 126).toNat, by omega⟩ : Fin 255) := by
    ext k
    simp only [Finset.mem_filter, Finset.mem_univ, true_and, Finset.mem_Ici, Fin.le_def]
    omega
  rw [hs, Fin.card_Ici]
  simp only
  omega

/-- The word the count gives. -/
theorem kexp_count (q : EReal) (n : ℕ)
    (hn : ((Finset.univ : Finset (Fin 255)).filter fun k => Ideal.cmp .olt q (pw (k.val + 1)) = 1#1).card = n) :
    kexp q = if IntOp.ori (Ideal.cmp .oeq q 0) (IntOp.cmpi .sgt (255#32 - BitVec.ofNat 32 n - 126#32) 128#32) = 1#1 then 0#32
      else 255#32 - BitVec.ofNat 32 n - 126#32 := by
  have hf : (Finset.univ : Finset (Fin 255)).fold IntOp.addi 0#32 (fun k =>
      (Ideal.cmp .olt q (Ideal.ofBits .f32 (IntOp.shli .vector (IntOp.addi (BitVec.ofNat 32 k.val) 1#32) 23#32))).setWidth 32)
      = BitVec.ofNat 32 n := by
    have hb : ∀ k : Fin 255, Ideal.ofBits .f32 (IntOp.shli .vector (IntOp.addi (BitVec.ofNat 32 k.val) 1#32) 23#32) = pw (k.val + 1) := by
      intro k
      have hk := k.isLt
      rw [← ofBits_field (k.val + 1) (by omega)]
      congr 2
      simp [IntOp.addi, BitVec.ofNat_add]
    simp only [hb]
    rw [Idealize.ShloMosaic.IndicatorCount.fold_addi_setWidth_eq_card, hn]
  unfold kexp
  rw [hf]
  rfl

/-- The exponent by counting, of a positive real below `2 ^ 120`. -/
theorem kexp_coe {q : ℝ} (h : 0 < q) (hq : q < (2 : ℝ) ^ (120 : ℤ)) : kexp (q : EReal) = BitVec.ofInt 32 (ez q) := by
  have h1 := ez_le h hq
  have h2 := le_ez q
  have hw : 255#32 - BitVec.ofNat 32 (129 - ez q).toNat - 126#32 = BitVec.ofInt 32 (ez q) := by
    have : BitVec.ofNat 32 (129 - ez q).toNat = BitVec.ofInt 32 (129 - ez q) := by
      rw [← BitVec.ofInt_natCast, Int.toNat_of_nonneg (by omega)]
    rw [this, show (129 : ℤ) - ez q = 129 + -ez q by ring, BitVec.ofInt_add, BitVec.ofInt_neg]
    generalize BitVec.ofInt 32 (ez q) = w
    have : BitVec.ofInt 32 129 = 129#32 := rfl
    rw [this]
    bv_omega
  rw [kexp_count _ (129 - ez q).toNat (by have := count_above h hq; omega), hw]
  have hne : Ideal.cmp .oeq (q : EReal) 0 = 0#1 := by
    have : (q : EReal) ≠ 0 := by exact_mod_cast h.ne'
    simp [Ideal.cmp, this]
  have hsg : IntOp.cmpi .sgt (BitVec.ofInt 32 (ez q)) 128#32 = 0#1 := by
    have hi : (BitVec.ofInt 32 (ez q)).toInt = ez q := by
      rw [BitVec.toInt_ofInt]
      exact Int.bmod_eq_of_le (by norm_num; omega) (by norm_num; omega)
    have : ¬ (128 < (BitVec.ofInt 32 (ez q)).toInt) := by rw [hi]; omega
    show BitVec.ofBool (decide ((128 : ℤ) < (BitVec.ofInt 32 (ez q)).toInt)) = 0#1
    rw [decide_eq_false this]
    rfl
  rw [hne, hsg]
  rfl

/-- The kernel's exponent of zero is zero. -/
theorem kexp_zero : kexp 0 = 0#32 := by
  unfold kexp
  have : Ideal.cmp .oeq 0 0 = 1#1 := by simp [Ideal.cmp]
  rw [this]
  simp only
  rw [if_pos]
  generalize IntOp.cmpi .sgt _ _ = w
  revert w
  decide

/-- The kernel's exponent of infinity is zero. -/
theorem kexp_top : kexp ⊤ = 0#32 := by
  rw [kexp_count ⊤ 0 (by
    rw [Finset.card_eq_zero, Finset.filter_eq_empty_iff]
    intro k _
    simp [Ideal.cmp])]
  have : Ideal.cmp .oeq (⊤ : EReal) 0 = 0#1 := by simp [Ideal.cmp]
  rw [this]
  rfl

/-- The exponent by the logarithm, of a positive real `a` whose scaled value lies below `2 ^ 120`. -/
theorem rexp_coe {a c : ℝ} (ha : 0 < a) (hc : 0 < c) (hq : a * c < (2 : ℝ) ^ (120 : ℤ)) :
    rexp (a : EReal) (c : EReal) = BitVec.ofInt 32 (ez (a * c)) := by
  have hpos : 0 < a * c := mul_pos ha hc
  have h1 := ez_le hpos hq
  have h2 := le_ez (a * c)
  have hl : (0 : ℝ) < Real.log 2 := Real.log_pos (by norm_num)
  have hne : Ideal.cmp .oeq (a : EReal) 0 = 0#1 := by
    have : (a : EReal) ≠ 0 := by exact_mod_cast ha.ne'
    simp [Ideal.cmp, this]
  have hnt : Ideal.cmp .oeq (a : EReal) ⊤ = 0#1 := by simp [Ideal.cmp]
  unfold rexp
  rw [hne, hnt, if_neg (by decide), ← EReal.coe_mul, Ideal.log_coe, if_neg (not_le.mpr hpos)]
  have hdiv : Ideal.div ((Real.log (a * c) : ℝ) : EReal) ((Real.log 2 : ℝ) : EReal) = ((Real.log (a * c) / Real.log 2 : ℝ) : EReal) := by
    unfold Ideal.div
    rw [if_neg (by exact_mod_cast hl.ne'), ← EReal.coe_inv, ← EReal.coe_mul, div_eq_mul_inv]
  rw [hdiv]
  have hfl : Ideal.liftRound Int.floor ((Real.log (a * c) / Real.log 2 : ℝ) : EReal)
      = (((⌊Real.log (a * c) / Real.log 2⌋ : ℤ) : ℝ) : EReal) := rfl
  rw [hfl]
  have hmax : max ((((⌊Real.log (a * c) / Real.log 2⌋ : ℤ) : ℝ) : EReal) + 1) ((-126 : ℝ) : EReal) = (((ez (a * c) : ℤ) : ℝ) : EReal) := by
    rw [show (1 : EReal) = ((1 : ℝ) : EReal) from rfl, ← EReal.coe_add]
    unfold ez
    rw [← EReal.coe_strictMono.monotone.map_max]
    push_cast
    rfl
  rw [hmax]
  unfold Ideal.fptosi
  congr 1
  show max _ (min _ (if (0 : ℝ) ≤ ((ez (a * c) : ℤ) : ℝ) then ⌊((ez (a * c) : ℤ) : ℝ)⌋ else ⌈((ez (a * c) : ℤ) : ℝ)⌉)) = _
  rw [Int.floor_intCast, Int.ceil_intCast, ite_self]
  norm_num
  omega

/-- The reference's exponent of zero is zero. -/
theorem rexp_zero (c : EReal) : rexp 0 c = 0#32 := by
  have h : Ideal.cmp .oeq (0 : EReal) 0 = 1#1 := by simp [Ideal.cmp]
  have h' : Ideal.cmp .oeq (0 : EReal) ⊤ = 0#1 := by simp [Ideal.cmp]
  unfold rexp
  rw [h, h', if_pos (by decide)]
  unfold Ideal.fptosi
  show BitVec.ofInt 32 (max _ (min _ (if (0 : ℝ) ≤ 0 then ⌊(0 : ℝ)⌋ else ⌈(0 : ℝ)⌉))) = _
  simp

/-- The reference's exponent of infinity is zero. -/
theorem rexp_top (c : EReal) : rexp ⊤ c = 0#32 := by
  have h : Ideal.cmp .oeq (⊤ : EReal) 0 = 0#1 := by simp [Ideal.cmp]
  have h' : Ideal.cmp .oeq (⊤ : EReal) ⊤ = 1#1 := by simp [Ideal.cmp]
  unfold rexp
  rw [h, h', if_pos (by decide)]
  unfold Ideal.fptosi
  show BitVec.ofInt 32 (max _ (min _ (if (0 : ℝ) ≤ 0 then ⌊(0 : ℝ)⌋ else ⌈(0 : ℝ)⌉))) = _
  simp

/-- The two exponents agree on a magnitude that is infinite or whose scaled value lies below `2 ^ 120`; they lie
    between `-126` and `120`. -/
theorem kexp_eq_rexp {a : EReal} {c : ℝ} (h0 : 0 ≤ a) (hc : 0 < c) (hq : a = ⊤ ∨ a * (c : EReal) < (((2 : ℝ) ^ (120 : ℤ) : ℝ) : EReal)) :
    kexp (a * (c : EReal)) = rexp a (c : EReal) ∧ ∃ z : ℤ, -126 ≤ z ∧ z ≤ 120 ∧ rexp a (c : EReal) = BitVec.ofInt 32 z := by
  induction a with
  | bot => simp at h0
  | top =>
    rw [EReal.top_mul_coe_of_pos hc, kexp_top, rexp_top]
    exact ⟨rfl, 0, by omega, by omega, rfl⟩
  | coe r =>
    have hr : 0 ≤ r := by exact_mod_cast h0
    rcases hr.eq_or_lt with h | h
    · subst h
      rw [EReal.coe_zero, zero_mul, kexp_zero, rexp_zero]
      exact ⟨rfl, 0, by omega, by omega, rfl⟩
    · have hlt : r * c < (2 : ℝ) ^ (120 : ℤ) := by
        rcases hq with hq | hq
        · simp at hq
        · rw [← EReal.coe_mul] at hq; exact_mod_cast hq
      rw [← EReal.coe_mul, kexp_coe (mul_pos h hc) hlt, rexp_coe h hc hlt]
      exact ⟨rfl, _, le_ez _, ez_le (mul_pos h hc) hlt, rfl⟩

/-- Two to an integer word's power, zero below the least normal exponent and infinite above the greatest: the
    reference's `pow2`. -/
def pow2 (k : BitVec 32) : EReal :=
  if IntOp.cmpi .slt k 4294967170#32 = 1#1 then 0 else if IntOp.cmpi .sgt k 127#32 = 1#1 then ⊤ else Ideal.exp2 ((k.toInt : ℝ) : EReal)

/-- `pow2` of an exponent is the float with that exponent's biased field. -/
theorem pow2_ofInt {z : ℤ} (h1 : -127 ≤ z) (h2 : z ≤ 128) : pow2 (BitVec.ofInt 32 z) = pw (z + 127).toNat := by
  have hi : (BitVec.ofInt 32 z).toInt = z := by
    rw [BitVec.toInt_ofInt]
    exact Int.bmod_eq_of_le (by norm_num; omega) (by norm_num; omega)
  have hs : IntOp.cmpi .slt (BitVec.ofInt 32 z) 4294967170#32 = 1#1 ↔ z < -126 := by
    have h126 : (4294967170#32 : BitVec 32).toInt = -126 := rfl
    simp only [IntOp.cmpi, BitVec.slt, hi, h126]
    by_cases h : z < -126 <;> simp [h]
  have hg : IntOp.cmpi .sgt (BitVec.ofInt 32 z) 127#32 = 1#1 ↔ 127 < z := by
    have h127 : (127#32 : BitVec 32).toInt = 127 := rfl
    simp only [IntOp.cmpi, BitVec.slt, hi, h127]
    by_cases h : 127 < z <;> simp [h]
  unfold pow2 pw
  simp only [hs, hg, hi]
  by_cases ha : z < -126
  · rw [if_pos ha, if_neg (by omega), if_pos (by omega)]
  · rw [if_neg ha]
    by_cases hb : 127 < z
    · rw [if_pos hb, if_pos (by omega)]
    · rw [if_neg hb, if_neg (by omega), if_neg (by omega), Ideal.exp2_coe]
      congr 1
      have hz : (((z + 127).toNat : ℕ) : ℤ) - 127 = z := by omega
      rw [hz]
      exact Real.rpow_intCast 2 z

/-- The kernel's power of two off the word `e + 127` shifted into the exponent field is the reference's `pow2 e`. -/
theorem ofBits_biased {z : ℤ} (h1 : -127 ≤ z) (h2 : z ≤ 128) :
    Ideal.ofBits .f32 (IntOp.shli .vector (IntOp.addi (BitVec.ofInt 32 z) 127#32) 23#32) = pow2 (BitVec.ofInt 32 z) := by
  rw [pow2_ofInt h1 h2, ← ofBits_field _ (by omega)]
  congr 2
  rw [← BitVec.ofInt_natCast 32 (z + 127).toNat, Int.toNat_of_nonneg (by omega), BitVec.ofInt_add]
  rfl

/-- … and off the word `127 - e`, `pow2 (0 - e)`. -/
theorem ofBits_neg_biased {z : ℤ} (h1 : -127 ≤ z) (h2 : z ≤ 126) :
    Ideal.ofBits .f32 (IntOp.shli .vector (IntOp.subi 127#32 (BitVec.ofInt 32 z)) 23#32)
      = pow2 (IntOp.subi 0#32 (BitVec.ofInt 32 z)) := by
  have hn : IntOp.subi 0#32 (BitVec.ofInt 32 z) = BitVec.ofInt 32 (-z) := by
    rw [BitVec.ofInt_neg]
    show 0#32 - BitVec.ofInt 32 z = _
    rw [BitVec.zero_sub]
  rw [hn, ← ofBits_biased (by omega) (by omega)]
  congr 2
  rw [BitVec.ofInt_neg]
  show 127#32 - BitVec.ofInt 32 z = -BitVec.ofInt 32 z + 127#32
  rw [BitVec.add_comm, BitVec.sub_eq_add_neg]

/-- A weight's scale byte shifted into the exponent field is the float `pow2` gives of the byte less its bias. -/
theorem ofBits_byte (b : BitVec 8) :
    Ideal.ofBits .f32 (IntOp.shli .vector (b.setWidth 32) 23#32) = pow2 (IntOp.subi (b.setWidth 32) 127#32) := by
  have hb := b.isLt
  have h1 : b.setWidth 32 = BitVec.ofNat 32 b.toNat := by
    apply BitVec.eq_of_toNat_eq
    simp
  have h2 : IntOp.subi (BitVec.ofNat 32 b.toNat) 127#32 = BitVec.ofInt 32 ((b.toNat : ℤ) - 127) := by
    rw [Int.sub_eq_add_neg, BitVec.ofInt_add, BitVec.ofInt_natCast]
    show BitVec.ofNat 32 b.toNat - 127#32 = _
    rw [BitVec.sub_eq_add_neg]
    rfl
  rw [h1, h2, pow2_ofInt (by omega) (by omega), ofBits_field _ (by omega)]
  congr 1
  omega

end Cert.Maths
-- ==== Proof.Point.Tile.lean ====
/- A chunk's logits at the ideal instance, read at a row and a token: the sum over the 1152 columns of the code times its
block's scale times the widened activation. -/
module

public import proofs.«01_k».proof.Proof.Point.Blk
public import proofs.«01_k».proof.Proof.Maths.Exponent
public import Idealize.ShloMosaic.Lib.Pointwise

@[expose] public section

set_option maxRecDepth 16384

noncomputable section

namespace Cert.KernelIdeal.Point

open Cert.KernelIdeal Cert.KernelIdeal.Gen
open Idealize.ShloMosaic Idealize.ShloMosaic.TcCoe Idealize.ShloMosaic.Tactic

/-- The block of 32 a column of a part lies in. -/
theorem block_apply (r : Fin 256) (j : Fin 128) : k0_pay18 (ix2 r j : S256x128.Idx) = BitVec.ofNat 32 (j.val / 32) := by
  pointwise [k0_pay18]
  revert j
  decide +kernel

/-- The same, counted from the first of the 36 blocks. -/
theorem lane_apply (k : Fin 9) (r : Fin 256) (j : Fin 128) :
    lane (BitVec.ofNat 32 (4 * k.val)) (ix2 r j : S256x128.Idx) = BitVec.ofNat 32 (4 * k.val + j.val / 32) := by
  pointwise [lane]
  rw [block_apply]
  revert k j
  decide +kernel

/-- The scale a byte stands for. -/
def scaleOfByte (b : BitVec 8) : EReal := Maths.pow2 (IntOp.subi (b.setWidth 32) 127#32)

/-- A part's widened weight: the code times its block's scale. -/
theorem part_apply (k : Fin 9) (ws : Vec Ideal S36x256 .i8) (w : Vec Ideal S256x128 .fp8e4m3) (r : Fin 256) (j : Fin 128) :
    part (F := Ideal) (BitVec.ofNat 32 (4 * k.val)) ws w (ix2 r j)
      = w (ix2 r j) * scaleOfByte (ws (ix2 ⟨4 * k.val + j.val / 32, by omega⟩ r)) := by
  pointwise [part, k0_pay19]
  rw [lane_apply]
  have e : (BitVec.ofNat 32 (4 * k.val + j.val / 32)).toNat % 128 = 4 * k.val + j.val / 32 := by
    rw [BitVec.toNat_ofNat]; omega
  simp only [e]
  rw [dif_pos (by omega)]
  exact congrArg (w (ix2 r j) * ·) (Maths.ofBits_byte _)

/-- Nine parts side by side: column `d` is column `d % 128` of part `d / 128`. -/
theorem parts_apply (f : Fin 9 → S256x128.Idx → EReal)
    (h : Shape.Concatenates [S256x128, S256x128, S256x128, S256x128, S256x128, S256x128, S256x128, S256x128, S256x128] S256x1152 1)
    (r : Fin 256) (d : Fin 1152) :
    concatenate S256x1152 1 [⟨S256x128, f 0⟩, ⟨S256x128, f 1⟩, ⟨S256x128, f 2⟩, ⟨S256x128, f 3⟩, ⟨S256x128, f 4⟩, ⟨S256x128, f 5⟩,
      ⟨S256x128, f 6⟩, ⟨S256x128, f 7⟩, ⟨S256x128, f 8⟩] h (ix2 r d : S256x1152.Idx)
      = f ⟨d.val / 128, by omega⟩ (ix2 r ⟨d.val % 128, by omega⟩) := by
  refine concatenate_ofFn_apply (t := S256x1152) (s₁ := S256x128) 1 f h rfl 128 rfl (ix2 r d) ⟨d.val / 128, by omega⟩ rfl
    (ix2 r ⟨d.val % 128, by omega⟩) rfl ?_
  intro b hb
  fin_cases b
  · rfl
  · exact absurd rfl hb

/-- A chunk's logit: its 1152 products, added. -/
theorem tile_apply (x2 : Vec Ideal S2048x1152 .fp8e4m3) (x3 : Vec Ideal S36x2048 .i8) (xt : Vec Ideal S1152x256 .bf16) (c : Fin 8)
    (r n : Fin 256) :
    tile (F := Ideal) x2 x3 xt c (ix2 r n)
      = ∑ d : Fin 1152, (x2 (ix2 ⟨256 * c.val + r.val, by omega⟩ d)
          * scaleOfByte (x3 (ix2 ⟨d.val / 32, by omega⟩ ⟨256 * c.val + r.val, by omega⟩))) * xt (ix2 d n) := by
  have key : ∀ L : FVec Ideal S256x1152 .bf16,
      matmul (F := Ideal) (φ₁ := .bf16) (φ₂ := .bf16) dot_S256x1152_S1152x256_S256x256_1_0_0_1_n_n none L xt (constant S256x256 .f32 0x00000000#32) (ix2 r n)
        = ∑ d : Fin 1152, L (ix2 r d) * xt (ix2 d n) := by
    intro L
    pointwise
  unfold tile logits
  refine (key _).trans (Finset.sum_congr rfl fun d _ => congrArg (· * xt (ix2 d n)) ?_)
  refine (parts_apply (fun k => part (F := Ideal) (BitVec.ofNat 32 (4 * k.val)) (sslice x3 c) (wslice x2 c k)) _ r d).trans ?_
  refine (part_apply _ _ _ r _).trans ?_
  refine congrArg₂ (fun a b => a * scaleOfByte b) ?_ ?_
  · refine congrArg x2 ?_
    funext a
    apply Fin.ext
    fin_cases a
    · show _ = _
      simp [Rect.unit, ix2]
      try omega
    · simp [Rect.unit, ix2]
      try omega
  · refine congrArg x3 ?_
    funext a
    apply Fin.ext
    fin_cases a
    · show _ = _
      simp [Rect.unit, ix2]
      try omega
    · simp [Rect.unit, ix2]
      try omega

end Cert.KernelIdeal.Point
-- ==== Proof.Maths.Softmax.lean ====
/- A softmax normaliser accumulated in pieces, over the extended reals: the running maximum, the running sum of
exponentials and the label's entry, each after so many terms, and the laws that add eight terms to each and that put
eight interleaved runs together. -/
module

public import Idealize.ShloMosaic.PureOps.Ideal.Laws

@[expose] public section

noncomputable section

namespace Cert.Maths

open Idealize.ShloMosaic

/-- The maximum of the first `N` terms (`-∞` of none). -/
def mx (f : ℕ → EReal) (N : ℕ) : EReal := (Finset.range N).sup f

/-- The sum of the first `N` exponentials, each relative to `M`. -/
def se (f : ℕ → EReal) (N : ℕ) (M : EReal) : EReal := ∑ k ∈ Finset.range N, Ideal.exp (f k - M)

/-- The entries among the first `N` that `p` marks, added up. -/
def lb (f : ℕ → EReal) (p : ℕ → Prop) [DecidablePred p] (N : ℕ) : EReal := ∑ k ∈ Finset.range N, if p k then f k else 0

/-- An exponential is not negative. -/
theorem exp_nonneg (x : EReal) : 0 ≤ Ideal.exp x := by
  induction x with
  | bot => simp
  | top => simp
  | coe r => simp only [Ideal.exp_coe]; exact_mod_cast (Real.exp_pos r).le

/-- An exponential relative to a smaller maximum, rescaled to a larger one. -/
theorem exp_rescale {l m m' : EReal} (h : l ≤ m) (h' : m ≤ m') :
    Ideal.exp (l - m) * Ideal.exp (m - m') = Ideal.exp (l - m') := by
  induction m' with
  | top => simp
  | bot =>
    have hm : m = ⊥ := le_bot_iff.mp h'
    subst hm
    have hl : l = ⊥ := le_bot_iff.mp h
    subst hl
    simp
  | coe c =>
    induction m with
    | top => exact absurd h' (by simp)
    | bot =>
      have hl : l = ⊥ := le_bot_iff.mp h
      subst hl
      simp
    | coe b =>
      induction l with
      | top => exact absurd h (by simp)
      | bot => simp
      | coe a =>
        rw [← EReal.coe_sub, ← EReal.coe_sub, ← EReal.coe_sub, Ideal.exp_coe, Ideal.exp_coe, Ideal.exp_coe,
          ← EReal.coe_mul, ← Real.exp_add]
        congr 2
        ring

/-- A sum of exponentials relative to a bound of its terms, rescaled to a larger bound. -/
theorem sum_rescale {ι : Type} (A : Finset ι) (f : ι → EReal) {m m' : EReal} (h : ∀ k ∈ A, f k ≤ m) (h' : m ≤ m') :
    (∑ k ∈ A, Ideal.exp (f k - m)) * Ideal.exp (m - m') = ∑ k ∈ A, Ideal.exp (f k - m') := by
  classical
  induction A using Finset.induction_on with
  | empty => simp
  | insert a A ha ih =>
    rw [Finset.sum_insert ha, Finset.sum_insert ha,
      EReal.right_distrib_of_nonneg (exp_nonneg _) (Finset.sum_nonneg fun _ _ => exp_nonneg _),
      ih fun k hk => h k (Finset.mem_insert_of_mem hk), exp_rescale (h a (Finset.mem_insert_self _ _)) h']

/-- An element is at most the maximum of a range that holds it. -/
theorem le_mx (f : ℕ → EReal) {N k : ℕ} (h : k < N) : f k ≤ mx f N := Finset.le_sup (Finset.mem_range.mpr h)

/-- Eight more terms under the maximum. -/
theorem mx_add (f : ℕ → EReal) (N : ℕ) :
    max (mx f N) ((Finset.univ : Finset (Fin 8)).fold max ⊥ fun i => f (N + i.val)) = mx f (N + 8) := by
  change max (mx f N) ((Finset.univ : Finset (Fin 8)).sup fun i => f (N + i.val)) = mx f (N + 8)
  apply le_antisymm
  · refine max_le (Finset.sup_le fun k hk => le_mx f ?_) (Finset.sup_le fun i _ => le_mx f ?_)
    · have := Finset.mem_range.mp hk; omega
    · omega
  · refine Finset.sup_le fun k hk => ?_
    have hk' := Finset.mem_range.mp hk
    by_cases h : k < N
    · exact le_max_of_le_left (le_mx f h)
    · refine le_max_of_le_right ?_
      have := Finset.le_sup (f := fun i : Fin 8 => f (N + i.val)) (Finset.mem_univ ⟨k - N, by omega⟩)
      simpa [Nat.add_sub_cancel' (not_lt.mp h)] using this

/-- Eight more terms under the sum of exponentials, whose old part is rescaled to the new maximum. -/
theorem se_add (f : ℕ → EReal) (N : ℕ) :
    se f N (mx f N) * Ideal.exp (mx f N - mx f (N + 8)) + ∑ i : Fin 8, Ideal.exp (f (N + i.val) - mx f (N + 8))
      = se f (N + 8) (mx f (N + 8)) := by
  have h : mx f N ≤ mx f (N + 8) := by rw [← mx_add]; exact le_max_left _ _
  unfold se
  rw [sum_rescale _ _ (fun k hk => le_mx f (Finset.mem_range.mp hk)) h, Finset.sum_range_add,
    Finset.sum_range (fun i => Ideal.exp (f (N + i) - mx f (N + 8)))]

/-- One more entry, where a marked one replaces the sum of the marked before it: none was. -/
theorem lb_succ (f : ℕ → EReal) (p : ℕ → Prop) [DecidablePred p] (N : ℕ) (h : p N → ∀ k < N, ¬ p k) :
    (if p N then f N else lb f p N) = lb f p (N + 1) := by
  unfold lb
  rw [Finset.sum_range_succ]
  by_cases hp : p N
  · rw [if_pos hp, if_pos hp, Finset.sum_eq_zero, zero_add]
    intro k hk
    rw [if_neg (h hp k (Finset.mem_range.mp hk))]
  · rw [if_neg hp, if_neg hp, add_zero]

/-- Eight interleaved runs of a sum are the sum. -/
theorem sum_interleave (g : ℕ → EReal) (K : ℕ) :
    ∑ r : Fin 8, ∑ k ∈ Finset.range K, g (8 * k + r.val) = ∑ v ∈ Finset.range (8 * K), g v := by
  induction K with
  | zero => simp
  | succ K ih =>
    simp only [Finset.sum_range_succ, Finset.sum_add_distrib, ih]
    rw [Nat.mul_succ, Finset.sum_range_add, Finset.sum_range (fun i => g (8 * K + i))]

/-- Eight interleaved runs' maxima have the maximum of all. -/
theorem mx_interleave (g : ℕ → EReal) (K : ℕ) :
    (Finset.univ : Finset (Fin 8)).fold max ⊥ (fun r => mx (fun k => g (8 * k + r.val)) K) = mx g (8 * K) := by
  change (Finset.univ : Finset (Fin 8)).sup (fun r => mx (fun k => g (8 * k + r.val)) K) = mx g (8 * K)
  apply le_antisymm
  · refine Finset.sup_le fun r _ => Finset.sup_le fun k hk => le_mx g ?_
    have := Finset.mem_range.mp hk
    omega
  · refine Finset.sup_le fun v hv => ?_
    have hv' := Finset.mem_range.mp hv
    refine le_trans ?_ (Finset.le_sup (f := fun r : Fin 8 => mx (fun k => g (8 * k + r.val)) K)
      (Finset.mem_univ ⟨v % 8, Nat.mod_lt _ (by omega)⟩))
    have := le_mx (fun k => g (8 * k + v % 8)) (N := K) (k := v / 8) (by omega)
    simpa [Nat.div_add_mod] using this

/-- The eight interleaved runs' sums of exponentials, each rescaled from its own maximum to the maximum of all, add up
    to the sum of all the exponentials relative to that maximum. -/
theorem se_interleave (g : ℕ → EReal) (K : ℕ) :
    ∑ r : Fin 8, se (fun k => g (8 * k + r.val)) K (mx (fun k => g (8 * k + r.val)) K)
        * Ideal.exp (mx (fun k => g (8 * k + r.val)) K - mx g (8 * K))
      = ∑ v ∈ Finset.range (8 * K), Ideal.exp (g v - mx g (8 * K)) := by
  rw [← sum_interleave]
  refine Finset.sum_congr rfl fun r _ => ?_
  unfold se
  refine sum_rescale _ (fun k => g (8 * k + r.val)) (fun k hk => le_mx (fun k => g (8 * k + r.val)) (Finset.mem_range.mp hk)) ?_
  rw [← mx_interleave]
  exact Finset.le_sup (f := fun r : Fin 8 => mx (fun k => g (8 * k + r.val)) K) (Finset.mem_univ r)

/-- The eight interleaved runs' marked entries add up to all the marked entries. -/
theorem lb_interleave (g : ℕ → EReal) (p : ℕ → Prop) [DecidablePred p] (K : ℕ) :
    ∑ r : Fin 8, lb (fun k => g (8 * k + r.val)) (fun k => p (8 * k + r.val)) K = ∑ v ∈ Finset.range (8 * K), if p v then g v else 0 := by
  rw [← sum_interleave]
  rfl

/-- A row of `N` values, continued by zeros. -/
def row {N : ℕ} (f : Fin N → EReal) (v : ℕ) : EReal := if h : v < N then f ⟨v, h⟩ else 0

/-- A row extended by zeros agrees with it inside. -/
theorem row_val {N : ℕ} (f : Fin N → EReal) (i : Fin N) : row f i.val = f i := dif_pos i.isLt

/-- A row's maximum. -/
theorem mx_row {N : ℕ} (f : Fin N → EReal) : (Finset.univ : Finset (Fin N)).fold max ⊥ f = mx (row f) N := by
  change (Finset.univ : Finset (Fin N)).sup f = mx (row f) N
  apply le_antisymm
  · refine Finset.sup_le fun i _ => ?_
    rw [← row_val f i]
    exact le_mx _ i.isLt
  · refine Finset.sup_le fun v hv => ?_
    have hv := Finset.mem_range.mp hv
    rw [show row f v = f ⟨v, hv⟩ from dif_pos hv]
    exact Finset.le_sup (Finset.mem_univ _)

/-- A token's loss from its logits `g` by vocabulary row, `N` of them, and its label `L`: the logarithm of the sum of the
exponentials, less the label's logit, less the constant of the word `0x4147A05B`. -/
def lossOf (N : ℕ) (g : ℕ → EReal) (L : BitVec 32) : EReal :=
  ((mx g N + Ideal.log (∑ v ∈ Finset.range N, Ideal.exp (g v - mx g N)))
    - ∑ v ∈ Finset.range N, if L = BitVec.ofNat 32 v then g v else 0) - Ideal.ofBits .f32 0x4147A05B#32

/-- The same from a row of values. -/
theorem lossOf_row {N : ℕ} (f : Fin N → EReal) (L : BitVec 32) :
    (((Finset.univ : Finset (Fin N)).fold max ⊥ f
        + Ideal.log (∑ v : Fin N, Ideal.exp (f v - (Finset.univ : Finset (Fin N)).fold max ⊥ f)))
      - ∑ v : Fin N, if L = BitVec.ofNat 32 v.val then f v else 0) - Ideal.ofBits .f32 0x4147A05B#32 = lossOf N (row f) L := by
  unfold lossOf
  rw [← mx_row, Finset.sum_range, Finset.sum_range]
  simp only [row_val]

end Cert.Maths
-- ==== Proof.Point.Group.lean ====
/- The running maximum, sum and label logit after a group of 64 vocabulary rows, at one of the eight lanes and one token:
the invariant of the whole sweep, and that a group keeps it. -/
module

public import proofs.«01_k».proof.Proof.Point.Blk
public import proofs.«01_k».proof.Proof.Maths.Softmax
public import Idealize.ShloMosaic.Lib.Pointwise

@[expose] public section

set_option maxRecDepth 16384

noncomputable section

namespace Cert.KernelIdeal.Point

open Cert.KernelIdeal Cert.KernelIdeal.Gen Cert.Maths
open Idealize.ShloMosaic Idealize.ShloMosaic.TcCoe Idealize.ShloMosaic.Tactic

/-- The word of minus infinity. -/
theorem ofBits_bot : Ideal.ofBits .f32 0xFF800000#32 = ⊥ := by
  simp [Ideal.ofBits, Ideal.ieee]

/-- The running maximum after a group. -/
theorem gmax_apply (sl : FVec Ideal S8x8x256 .f32) (m : FVec Ideal S8x256 .f32) (r : Fin 8) (n : Fin 256) :
    gmax (F := Ideal) sl m (ix2 r n) = max (m (ix2 r n)) ((Finset.univ : Finset (Fin 8)).fold max ⊥ fun i => sl (ix3 i r n)) := by
  have key : multiReduction (F := Ideal) .maximumf [0] S8x256 sl 0xFF800000#32 reduces_S8x8x256_S8x256 (.inl rfl) rfl (ix2 r n)
      = (Finset.univ : Finset (Fin 8)).fold max ⊥ fun i => sl (ix3 i r n) := by
    pointwise
    rw [ofBits_bot]
  exact congrArg (max (m (ix2 r n))) key

/-- The running sum after a group. -/
theorem gsum_apply (sl : FVec Ideal S8x8x256 .f32) (m m' s : FVec Ideal S8x256 .f32) (r : Fin 8) (n : Fin 256) :
    gsum (F := Ideal) sl m m' s (ix2 r n)
      = s (ix2 r n) * Ideal.exp (m (ix2 r n) - m' (ix2 r n)) + ∑ i : Fin 8, Ideal.exp (sl (ix3 i r n) - m' (ix2 r n)) := by
  pointwise [gsum]

/-- The label's logit after one group of eight rows. -/
theorem pick_apply {k : ℕ} (hk : k < 8) (h : S8x8x256.Slices ![k, 0, 0] S1x8x256) (lr : IVec S8x256 32) (b : BitVec 32)
    (sl : FVec Ideal S8x8x256 .f32) (lab : FVec Ideal S8x256 .f32) (r : Fin 8) (n : Fin 256) :
    pick (F := Ideal) h lr b sl lab (ix2 r n) = if lr (ix2 r n) = b then sl (ix3 ⟨k, hk⟩ r n) else lab (ix2 r n) := by
  pointwise [pick]
  by_cases hc : lr (ix2 r n) = b
  · rw [hc, if_pos rfl]
    simp [Scalar.select, IntOp.cmpi]
  · rw [if_neg hc]
    have : (lr (ix2 r n) == b) = false := beq_false_of_ne hc
    simp [Scalar.select, IntOp.cmpi, this]

/-- A group's rows within a chunk. -/
theorem slab_apply {b : ℕ} (hb : b + 64 ≤ 256) (h : S256x256.Slices ![b, 0] S64x256) (lg : FVec Ideal S256x256 .f32) (i r : Fin 8) (n : Fin 256) :
    slab (F := Ideal) h lg (ix3 i r n) = lg (ix2 ⟨b + 8 * i.val + r.val, by omega⟩ n) := by
  pointwise [slab]
  refine congrArg (fun a => lg (ix2 a n)) (Fin.ext ?_)
  show b + (i.val * 8 + r.val) = b + 8 * i.val + r.val
  omega

/-- Where the sweep stands after `8 * N` vocabulary rows, at lane `r` and one token: `g` is the token's logits by vocabulary
row, `L` its label. Lane `r` has seen the rows `8 k + r`, `k < N`: it holds their maximum, the sum of their exponentials
relative to that maximum, and the label's logit if the label is one of them. -/
structure Inv (g : ℕ → EReal) (L : BitVec 32) (N : ℕ) (r : Fin 8) (n : Fin 256) (m s lab : FVec Ideal S8x256 .f32) : Prop where
  hm : m (ix2 r n) = mx (fun k => g (8 * k + r.val)) N
  hs : s (ix2 r n) = se (fun k => g (8 * k + r.val)) N (mx (fun k => g (8 * k + r.val)) N)
  hl : lab (ix2 r n) = lb (fun k => g (8 * k + r.val)) (fun k => L = BitVec.ofNat 32 (8 * k + r.val)) N

/-- One plane of a group: row `8 (N + k) + r` of the vocabulary. -/
theorem pick_step {g : ℕ → EReal} {L : BitVec 32} {N t b k : ℕ} (hk : k < 8) (h : S8x8x256.Slices ![k, 0, 0] S1x8x256)
    {lr : IVec S8x256 32} {sl : FVec Ideal S8x8x256 .f32} {lab : FVec Ideal S8x256 .f32} {r : Fin 8} {n : Fin 256}
    (hN : 2048 * t + b = 8 * N) (hlt : N + 8 ≤ 32768)
    (hlr : lr (ix2 r n) = L - BitVec.ofNat 32 (2048 * t) - BitVec.ofNat 32 r.val)
    (hsl : ∀ i : Fin 8, sl (ix3 i r n) = g (8 * (N + i.val) + r.val))
    (hl : lab (ix2 r n) = lb (fun k => g (8 * k + r.val)) (fun k => L = BitVec.ofNat 32 (8 * k + r.val)) (N + k)) :
    pick (F := Ideal) h lr (BitVec.ofNat 32 (b + 8 * k)) sl lab (ix2 r n)
      = lb (fun k => g (8 * k + r.val)) (fun k => L = BitVec.ofNat 32 (8 * k + r.val)) (N + (k + 1)) := by
  have hr := r.isLt
  have e : lr (ix2 r n) = BitVec.ofNat 32 (b + 8 * k) ↔ L = BitVec.ofNat 32 (8 * (N + k) + r.val) := by
    have e' : BitVec.ofNat 32 (8 * (N + k) + r.val) = BitVec.ofNat 32 (2048 * t) + BitVec.ofNat 32 (b + 8 * k) + BitVec.ofNat 32 r.val := by
      rw [← BitVec.ofNat_add, ← BitVec.ofNat_add]
      congr 1
      omega
    rw [hlr, e']
    generalize BitVec.ofNat 32 (2048 * t) = x
    generalize BitVec.ofNat 32 (b + 8 * k) = y
    generalize BitVec.ofNat 32 r.val = z
    constructor <;> intro h <;> bv_omega
  rw [pick_apply hk, hsl ⟨k, hk⟩, hl, ← Nat.add_assoc N k 1, ← lb_succ]
  · simp only [e]
  · intro h1 j hj h2
    have := congrArg BitVec.toNat (h1.symm.trans h2)
    rw [BitVec.toNat_ofNat, BitVec.toNat_ofNat, Nat.mod_eq_of_lt (by omega), Nat.mod_eq_of_lt (by omega)] at this
    omega

/-- A group keeps the invariant. -/
theorem group_step {g : ℕ → EReal} {L : BitVec 32} {N t b : ℕ}
    {lr : IVec S8x256 32} {sl : FVec Ideal S8x8x256 .f32} {m s lab : FVec Ideal S8x256 .f32} {r : Fin 8} {n : Fin 256}
    (hN : 2048 * t + b = 8 * N) (hlt : N + 8 ≤ 32768)
    (hlr : lr (ix2 r n) = L - BitVec.ofNat 32 (2048 * t) - BitVec.ofNat 32 r.val)
    (hsl : ∀ i : Fin 8, sl (ix3 i r n) = g (8 * (N + i.val) + r.val)) (h : Inv g L N r n m s lab) :
    Inv g L (N + 8) r n (gmax sl m) (gsum sl m (gmax sl m) s) (glab lr b sl lab) := by
  have hM : gmax (F := Ideal) sl m (ix2 r n) = mx (fun k => g (8 * k + r.val)) (N + 8) := by
    rw [gmax_apply, h.hm, ← mx_add]
    simp only [hsl]
  refine ⟨hM, ?_, ?_⟩
  · rw [gsum_apply, hM, h.hm, h.hs, ← se_add]
    simp only [hsl]
  · unfold glab
    exact pick_step (k := 7) (by omega) _ hN hlt hlr hsl (pick_step (k := 6) (by omega) _ hN hlt hlr hsl
      (pick_step (k := 5) (by omega) _ hN hlt hlr hsl (pick_step (k := 4) (by omega) _ hN hlt hlr hsl
      (pick_step (k := 3) (by omega) _ hN hlt hlr hsl (pick_step (k := 2) (by omega) _ hN hlt hlr hsl
      (pick_step (k := 1) (by omega) _ hN hlt hlr hsl (pick_step (k := 0) (by omega) _ hN hlt hlr hsl h.hl)))))))

/-- A chunk of four groups keeps the invariant. -/
theorem chunk_step {g : ℕ → EReal} {L : BitVec 32} {N t c : ℕ}
    {lr : IVec S8x256 32} {lg : FVec Ideal S256x256 .f32} {m s lab : FVec Ideal S8x256 .f32} {r : Fin 8} {n : Fin 256}
    (hN : 2048 * t + 256 * c = 8 * N) (hlt : N + 32 ≤ 32768)
    (hlr : lr (ix2 r n) = L - BitVec.ofNat 32 (2048 * t) - BitVec.ofNat 32 r.val)
    (hlg : ∀ v : Fin 256, lg (ix2 v n) = g (8 * N + v.val)) (h : Inv g L N r n m s lab) :
    Inv g L (N + 32) r n (cmax lg m) (csum lg m s) (clab lr c lg lab) := by
  have hs : ∀ (b : ℕ) (q : ℕ) (hq : b = 8 * q) (hb : b + 64 ≤ 256) (h : S256x256.Slices ![b, 0] S64x256) (i : Fin 8),
      slab (F := Ideal) h lg (ix3 i r n) = g (8 * (N + q + i.val) + r.val) := by
    intro b q hq hb h i
    rw [slab_apply hb, hlg]
    refine congrArg g ?_
    show 8 * N + (b + 8 * i.val + r.val) = _
    omega
  have h1 := group_step (b := 256 * c + 0) (by omega) (by omega) hlr (hs 0 0 (by omega) (by omega) slices_S256x256_o0_0_S64x256) h
  have h2 := group_step (b := 256 * c + 64) (by omega) (by omega) hlr (hs 64 8 (by omega) (by omega) slices_S256x256_o64_0_S64x256) h1
  have h3 := group_step (b := 256 * c + 128) (by omega) (by omega) hlr (hs 128 16 (by omega) (by omega) slices_S256x256_o128_0_S64x256) h2
  exact group_step (b := 256 * c + 192) (by omega) (by omega) hlr (hs 192 24 (by omega) (by omega) slices_S256x256_o192_0_S64x256) h3

/-- A point's tile of eight chunks keeps the invariant. -/
theorem point_step {g : ℕ → EReal} {L : BitVec 32} {t : ℕ} (ht : t < 128)
    {lr : IVec S8x256 32} {T : Fin 8 → FVec Ideal S256x256 .f32} {m s lab : FVec Ideal S8x256 .f32} {r : Fin 8} {n : Fin 256}
    (hlr : lr (ix2 r n) = L - BitVec.ofNat 32 (2048 * t) - BitVec.ofNat 32 r.val)
    (hT : ∀ (c : Fin 8) (v : Fin 256), T c (ix2 v n) = g (2048 * t + 256 * c.val + v.val)) (h : Inv g L (256 * t) r n m s lab) :
    Inv g L (256 * (t + 1)) r n (pmax T m 8) (psum T m s 8) (plab T lr lab 8) := by
  have key : ∀ c : ℕ, c ≤ 8 → Inv g L (256 * t + 32 * c) r n (pmax T m c) (psum T m s c) (plab T lr lab c) := by
    intro c
    induction c with
    | zero => exact fun _ => h
    | succ c ih =>
      intro hc
      refine chunk_step (N := 256 * t + 32 * c) (by omega) (by omega) hlr (fun v => ?_) (ih (by omega))
      rw [hT]
      refine congrArg g ?_
      show 2048 * t + 256 * (c % 8) + v.val = _
      rw [Nat.mod_eq_of_lt (by omega)]
      omega
  exact key 8 le_rfl

/-- Before the first point the invariant holds of the initial values. -/
theorem inv_zero (g : ℕ → EReal) (L : BitVec 32) (r : Fin 8) (n : Fin 256) :
    Inv g L 0 r n (k0_pay14 (F := Ideal)) (k0_pay15 (F := Ideal)) (k0_pay16 (F := Ideal)) := by
  refine ⟨?_, ?_, ?_⟩
  · pointwise [k0_pay14]
    exact ofBits_bot
  · pointwise [k0_pay15]
    rfl
  · pointwise [k0_pay16]
    rfl

end Cert.KernelIdeal.Point
-- ==== Proof.Point.Blocks.lean ====
/- What a grid point finds in its input windows, read off the kernel's arguments: all labels and activations at every
point, and the point's 2048 rows of weight codes and scales. -/
module

public import proofs.«01_k».proof.Proof.KernelRun.Runs
public import Idealize.ShloMosaic.Lib.Pointwise
public import Idealize.ShloMosaic.Lib.Pipeline.ValueKit

@[expose] public section

set_option maxRecDepth 16384

noncomputable section

namespace Cert.KernelIdeal.Point

open Cert.KernelIdeal Cert.KernelIdeal.Gen Cert.KernelIdeal.Run
open Idealize.ShloMosaic Idealize.ShloMosaic.TcCoe Idealize.ShloMosaic.Tactic Idealize.SL.Sem

variable {F : FTy → Type} [FloatOps F]
variable (m : (ℓ : Loc nD τ sig) → Buf (Elt F) ℓ)

/-- Where each input window's block stands at a point. -/
theorem idx0 : ∀ t : Fin cfg0.N, win0_0.index t = ![0, 0] := (by decide +kernel : ∀ t : Fin grid0.N, _)
@[inherit_doc idx0] theorem idx1 : ∀ t : Fin cfg0.N, win0_1.index t = ![0, 0] := (by decide +kernel : ∀ t : Fin grid0.N, _)
@[inherit_doc idx0] theorem idx2 : ∀ t : Fin cfg0.N, win0_2.index t = ![t.val, 0] := (by decide +kernel : ∀ t : Fin grid0.N, _)
@[inherit_doc idx0] theorem idx3 : ∀ t : Fin cfg0.N, win0_3.index t = ![0, t.val] := (by decide +kernel : ∀ t : Fin grid0.N, _)
/-- A point's grid coordinate is its number. -/
theorem coord : ∀ t : Fin cfg0.N, (grid0.coords t 0).val = t.val := (by decide +kernel : ∀ t : Fin grid0.N, _)

/-- The labels, one row. -/
def labels (c : Dev nD) : IVec S1x256 32 := shapeCast S1x256 (m ((c : Thread nD τ).loc main_arg3)) shapeCasts_S2x128_S1x256

/-- The activations, one row a token. -/
def acts (c : Dev nD) : FVec F S256x1152 .bf16 := shapeCast S256x1152 (m ((c : Thread nD τ).loc main_arg0)) shapeCasts_S2x128x1152_S256x1152

/-- The labels as the host hands them to the kernel. -/
theorem V_labels (c : Dev nD) : V m c main_v0 = labels m c := by
  entry_read
  rfl

/-- The activations as the host hands them to the kernel. -/
theorem V_acts (c : Dev nD) : V m c main_v1 = acts m c := by
  entry_read
  rfl

/-- The weights' scales as the host hands them to the kernel: transposed. -/
theorem V_scales (c : Dev nD) : V m c main_v2
    = transpose S36x262144 [1, 0] (m ((c : Thread nD τ).loc main_arg2)) transposes_S262144x36_S36x262144_1_0 := by
  entry_read
  rfl

/-- The block of labels at every point is all of them. -/
theorem iblk0 (c : Dev nD) (t : Fin cfg0.N) : iblk m c 0 t = labels m c := by
  rw [← V_labels]
  blk_ext! [iblk, idx0 t]

/-- The block of activations at every point is all of them. -/
theorem iblk1 (c : Dev nD) (t : Fin cfg0.N) : iblk m c 1 t = acts m c := by
  rw [← V_acts]
  blk_ext! [iblk, idx1 t]

/-- There are 128 points. -/
theorem point_lt (t : Fin cfg0.N) : t.val < 128 := lt_of_lt_of_eq t.isLt N_0

/-- The block of weights at a point is that point's 2048 rows. -/
theorem iblk2 (c : Dev nD) (t : Fin cfg0.N) (r : Fin 2048) (d : Fin 1152) :
    (iblk m c 2 t : Vec F S2048x1152 .fp8e4m3) (ix2 r d)
      = (m ((c : Thread nD τ).loc main_arg1) : Vec F S262144x1152 .fp8e4m3) (ix2 ⟨2048 * t.val + r.val, by have := point_lt t; omega⟩ d) := by
  rw [← V_main_arg1 m c]
  blk_ext [iblk, idx2 t]

/-- The block of scales at a point is that point's 2048 columns. -/
theorem iblk3 (c : Dev nD) (t : Fin cfg0.N) (b : Fin 36) (r : Fin 2048) :
    (iblk m c 3 t : Vec F S36x2048 .i8) (ix2 b r)
      = (m ((c : Thread nD τ).loc main_arg2) : Vec F S262144x36 .i8) (ix2 ⟨2048 * t.val + r.val, by have := point_lt t; omega⟩ b) := by
  have e : (iblk m c 3 t : Vec F S36x2048 .i8) (ix2 b r)
      = (V m c main_v2 : Vec F S36x262144 .i8) (ix2 b ⟨2048 * t.val + r.val, by have := point_lt t; omega⟩) := by
    blk_ext [iblk, idx3 t]
  rw [e, V_scales]
  pointwise

end Cert.KernelIdeal.Point
-- ==== Proof.Point.Sweep.lean ====
/- What the kernel's arrays hold when the grid is swept, at the ideal instance: the codes and the scale bytes that the first
point stores, and the loss of running maxima, sums and label logits that satisfy the sweep's invariant. -/
module

public import proofs.«01_k».proof.Proof.KernelRun.Value
public import proofs.«01_k».proof.Proof.Point.OutA
public import proofs.«01_k».proof.Proof.Point.OutB
public import proofs.«01_k».proof.Proof.Point.OutC
public import proofs.«01_k».proof.Proof.Point.Tile
public import proofs.«01_k».proof.Proof.Point.Group
public import proofs.«01_k».proof.Proof.Point.Blocks

@[expose] public section

set_option maxRecDepth 16384

noncomputable section

namespace Cert.KernelIdeal.Point

open Cert.KernelIdeal Cert.KernelIdeal.Gen Cert.KernelIdeal.Run Cert.KernelIdeal.Value Cert.Maths
open Idealize.ShloMosaic Idealize.ShloMosaic.TcCoe Idealize.ShloMosaic.Tactic Idealize.SL.Sem

/-- The logit of vocabulary row `v` at one token, from the weight codes, the scale bytes and the widened activations. -/
def rowLogit (w : S262144x1152.Idx → EReal) (sc : S262144x36.Idx → BitVec 8) (xt : S1152x256.Idx → EReal) (n : Fin 256) (v : ℕ) : EReal :=
  if h : v < 262144 then
    ∑ d : Fin 1152, (w (ix2 ⟨v, h⟩ d) * scaleOfByte (sc (ix2 ⟨v, h⟩ ⟨d.val / 32, by omega⟩))) * xt (ix2 d n)
  else 0

/-- The label relative to a point's tile and to a lane's first row. -/
theorem label_apply (t : Fin cfg0.N) (l : IVec S1x256 32) (r : Fin 8) (n : Fin 256) :
    k0_pay17 (F := Ideal) (grid0.coords t) l (ix2 r n)
      = l (ix2 0 n) - BitVec.ofNat 32 (2048 * t.val) - BitVec.ofNat 32 r.val := by
  have e : Scalar.muli (BitVec.ofNat 32 (grid0.coords t 0).val) 2048#32 = BitVec.ofNat 32 (2048 * t.val) := by
    rw [coord, Nat.mul_comm, BitVec.ofNat_mul]
    rfl
  pointwise [k0_pay17]
  rw [e]
  rfl

variable (m : (ℓ : Loc nD τ sig) → Buf (Elt Ideal) ℓ)

/-- The kernel's logits. -/
abbrev logit (c : Dev nD) (n : Fin 256) : ℕ → EReal :=
  rowLogit (m ((c : Thread nD τ).loc main_arg1)) (m ((c : Thread nD τ).loc main_arg2)) (xtOf (F := Ideal) (acts m c)) n

/-- A logit of a chunk at a point is the logit of its vocabulary row. -/
theorem tile_logit (c : Dev nD) (t : Fin cfg0.N) (k : Fin 8) (v n : Fin 256) :
    tile (F := Ideal) (iblk m c 2 t) (iblk m c 3 t) (xtOf (F := Ideal) (acts m c)) k (ix2 v n)
      = logit m c n (2048 * t.val + 256 * k.val + v.val) := by
  have ht := point_lt t
  refine (tile_apply _ _ _ k v n).trans ?_
  unfold logit rowLogit
  rw [dif_pos (by omega)]
  refine Finset.sum_congr rfl fun d _ => ?_
  refine congrArg (· * xtOf (F := Ideal) (acts m c) (ix2 d n)) (congrArg₂ (fun a b => a * scaleOfByte b) ?_ ?_)
  · refine (iblk2 m c t _ d).trans (congrArg (fun a => (m ((c : Thread nD τ).loc main_arg1) : S262144x1152.Idx → EReal) (ix2 a d)) (Fin.ext ?_))
    show 2048 * t.val + (256 * k.val + v.val) = 2048 * t.val + 256 * k.val + v.val
    omega
  · refine (iblk3 m c t _ _).trans (congrArg (fun a => (m ((c : Thread nD τ).loc main_arg2) : S262144x36.Idx → BitVec 8) (ix2 a _)) (Fin.ext ?_))
    show 2048 * t.val + (256 * k.val + v.val) = 2048 * t.val + 256 * k.val + v.val
    omega

/-- What the kernel holds after `N` rows of every lane: the codes, the scale bytes, the widened activations, and running
values that satisfy the invariant. -/
structure Kept (c : Dev nD) (N : ℕ) (st : Vec Ideal S1x256 .f32 × Vec Ideal S256x1152 .fp8e4m3 × Vec Ideal S256x36 .i8
    × Vec Ideal S1152x256 .bf16 × Vec Ideal S8x256 .f32 × Vec Ideal S8x256 .f32 × Vec Ideal S8x256 .f32) : Prop where
  codes : st.2.1 = codesOf (F := Ideal) (acts m c)
  scale : st.2.2.1 = scaleOf (F := Ideal) (acts m c)
  xt : st.2.2.2.1 = xtOf (F := Ideal) (acts m c)
  inv : ∀ (r : Fin 8) (n : Fin 256), Inv (logit m c n) (labels m c (ix2 0 n)) N r n st.2.2.2.2.1 st.2.2.2.2.2.1 st.2.2.2.2.2.2

/-- After the first point the first 256 groups of rows are folded. -/
theorem first (c : Dev nD) (t : Fin cfg0.N) (h : t.val = 0) : Kept m c 256 (stAt0 m c t.val t.isLt junk0) := by
  rw [stAt0_A m c t _ (by omega) (by omega)]
  refine ⟨?_, ?_, ?_, fun r n => ?_⟩
  · dsimp only
    rw [out0_A_5_eq, iblk1]
  · dsimp only
    rw [out0_A_6_eq, iblk1]
  · dsimp only
    rw [sout0_A_0_eq, iblk1]
  · dsimp only
    rw [sout0_A_1_eq, sout0_A_2_eq, sout0_A_3_eq, iblk0, iblk1]
    have := point_step (t := t.val) (point_lt t) (label_apply t (labels m c) r n) (fun k v => tile_logit m c t k v n)
      (by rw [h]; exact inv_zero (logit m c n) (labels m c (ix2 0 n)) r n)
    rw [h] at this
    exact this

/-- Every further point but the last folds 256 groups of rows more. -/
theorem next (c : Dev nD) (t : Fin cfg0.N) (h : ¬t.val = 0) (h' : ¬t.val = 127) {st} (hk : Kept m c (256 * t.val) st) :
    Kept m c (256 * (t.val + 1)) (stAt0 m c t.val t.isLt st) := by
  have ht := point_lt t
  rw [stAt0_B m c t _ (by omega) (by omega)]
  refine ⟨hk.codes, hk.scale, hk.xt, fun r n => ?_⟩
  dsimp only
  rw [sout0_B_1_eq, sout0_B_2_eq, sout0_B_3_eq, iblk0, hk.xt]
  exact point_step (t := t.val) (point_lt t) (label_apply t (labels m c) r n) (fun k v => tile_logit m c t k v n) (hk.inv r n)

/-- The first 127 points. -/
theorem kept (c : Dev nD) : ∀ (n : ℕ) (hn : 0 + n < cfg0.N), n < 127 →
    Kept m c (256 * (n + 1)) (Pipeline.accAt (fun n h => stAt0 m c n h junk0) (stAt0 m c) 0 n hn) := by
  intro n
  induction n with
  | zero => exact fun hn _ => first m c ⟨0, hn⟩ rfl
  | succ n ih =>
    intro hn hlt
    rw [Pipeline.accAt_succ]
    have := next m c ⟨0 + (n + 1), hn⟩ (by simp) (by simp; omega) (st := Pipeline.accAt (fun n h => stAt0 m c n h junk0) (stAt0 m c) 0 n (Nat.lt_of_succ_lt hn))
      (by simpa using ih (Nat.lt_of_succ_lt hn) (by omega))
    simpa using this

/-- The last point stores the loss of what the running values have become, and keeps the codes and the scale bytes. -/
theorem last (c : Dev nD) (t : Fin cfg0.N) (h : t.val = 127) {st} (hk : Kept m c (256 * t.val) st) :
    ∃ M S B : FVec Ideal S8x256 .f32,
      (∀ (r : Fin 8) (n : Fin 256), Inv (logit m c n) (labels m c (ix2 0 n)) 32768 r n M S B)
      ∧ (stAt0 m c t.val t.isLt st).1 = loss M S B ∧ (stAt0 m c t.val t.isLt st).2.1 = codesOf (F := Ideal) (acts m c)
      ∧ (stAt0 m c t.val t.isLt st).2.2.1 = scaleOf (F := Ideal) (acts m c) := by
  rw [stAt0_C m c t _ (by omega) (by omega)]
  refine ⟨pmax (tile (iblk m c 2 t) (iblk m c 3 t) st.2.2.2.1) st.2.2.2.2.1 8,
    psum (tile (iblk m c 2 t) (iblk m c 3 t) st.2.2.2.1) st.2.2.2.2.1 st.2.2.2.2.2.1 8,
    plab (tile (iblk m c 2 t) (iblk m c 3 t) st.2.2.2.1) (k0_pay17 (F := Ideal) (grid0.coords t) (iblk m c 0 t)) st.2.2.2.2.2.2 8,
    fun r n => ?_, ?_, hk.codes, hk.scale⟩
  rotate_left
  · dsimp only
    rw [out0_C_4_eq]
  rw [iblk0, hk.xt]
  have := point_step (t := t.val) (point_lt t) (label_apply t (labels m c) r n) (fun k v => tile_logit m c t k v n) (hk.inv r n)
  rw [h] at this
  exact this

/-- The last point: the three results. -/
theorem results (c : Dev nD) : ∃ M S B : FVec Ideal S8x256 .f32,
    (∀ (r : Fin 8) (n : Fin 256), Inv (logit m c n) (labels m c (ix2 0 n)) 32768 r n M S B)
    ∧ G4 m c = loss M S B ∧ G5 m c = codesOf (F := Ideal) (acts m c) ∧ G6 m c = scaleOf (F := Ideal) (acts m c) := by
  have hb : 0 + 127 < cfg0.N := lt_of_lt_of_eq (by decide) N_0.symm
  have hk := kept m c 126 (Nat.lt_of_succ_lt hb) (by omega)
  rw [G4_last, G5_last, G6_last]
  rw [Pipeline.accAt_succ]
  generalize Pipeline.accAt (fun n h => stAt0 m c n h junk0) (stAt0 m c) 0 126 (Nat.lt_of_succ_lt hb) = st at hk
  exact last m c ⟨127, lt_of_lt_of_eq (by decide) N_0.symm⟩ rfl hk

end Cert.KernelIdeal.Point
-- ==== Proof.Point.Loss.lean ====
/- The kernel's loss at the ideal instance, read at a token: the eight lanes of a finished sweep put together are the logarithm
of the sum of exponentials, less the label's logit, less a constant. -/
module

public import proofs.«01_k».proof.Proof.Point.Group

@[expose] public section

set_option maxRecDepth 16384

noncomputable section

namespace Cert.KernelIdeal.Point

open Cert.KernelIdeal Cert.KernelIdeal.Gen Cert.Maths
open Idealize.ShloMosaic Idealize.ShloMosaic.TcCoe Idealize.ShloMosaic.Tactic

/-- The loss from the lanes. -/
theorem loss_apply (m s lab : FVec Ideal S8x256 .f32) (n : Fin 256) :
    loss (F := Ideal) m s lab (ix2 0 n)
      = (((Finset.univ : Finset (Fin 8)).fold max ⊥ (fun r => m (ix2 r n))
          + Ideal.log (∑ r : Fin 8, s (ix2 r n) * Ideal.exp (m (ix2 r n) - (Finset.univ : Finset (Fin 8)).fold max ⊥ (fun r => m (ix2 r n)))))
        - ∑ r : Fin 8, lab (ix2 r n)) - Ideal.ofBits .f32 0x4147A05B#32 := by
  pointwise [loss]
  simp only [ofBits_bot]

/-- The loss of a token of logits `g` and label `L`. -/
theorem loss_inv {g : ℕ → EReal} {L : BitVec 32} {n : Fin 256} {m s lab : FVec Ideal S8x256 .f32}
    (h : ∀ r : Fin 8, Inv g L 32768 r n m s lab) :
    loss (F := Ideal) m s lab (ix2 0 n) = lossOf (8 * 32768) g L := by
  rw [loss_apply]
  simp only [(h _).hm, (h _).hs, (h _).hl]
  rw [mx_interleave, se_interleave, lb_interleave g (fun v => L = BitVec.ofNat 32 v)]
  rfl

end Cert.KernelIdeal.Point
-- ==== Proof.Maths.Quant.lean ====
/- The block quantiser's values: a block's largest magnitude, a value's code and the two ways of writing a scale. -/
module

public import proofs.«01_k».proof.Proof.Maths.Exponent
public import Idealize.ShloMosaic.Lib.Pointwise

@[expose] public section

set_option maxRecDepth 16384

noncomputable section

namespace Cert.Maths

open Idealize.ShloMosaic

/-- The largest magnitude of a block of 32. -/
def amax (f : Fin 32 → EReal) : EReal := (Finset.univ : Finset (Fin 32)).fold max ⊥ fun j => max (f j) (-(f j))

/-- The word of the reciprocal of 448. -/
def c448 : EReal := Ideal.ofBits .f32 0x3B124925#32

/-- The code of a value in a block of exponent `e`: the value over the scale, cut off at 448 either way. -/
def code (e : BitVec 32) (v : EReal) : EReal :=
  min (Ideal.ofBits .f32 0x43E00000#32) (max (Ideal.ofBits .f32 0xC3E00000#32) (v * pow2 (IntOp.subi 0#32 e)))

/-- A block's exponent. -/
def bexp (f : Fin 32 → EReal) : BitVec 32 := rexp (amax f) c448

/-- The word of minus infinity. -/
theorem word_bot : Ideal.ofBits .f32 0xFF800000#32 = ⊥ := by
  simp [Ideal.ofBits, Ideal.ieee]

/-- The word of infinity. -/
theorem word_top : Ideal.ofBits .f32 0x7F800000#32 = ⊤ := by
  simp [Ideal.ofBits, Ideal.ieee]

/-- The word of -126. -/
theorem word_m126 : Ideal.ofBits .f32 0xC2FC0000#32 = ((-126 : ℝ) : EReal) := by
  simp [Ideal.ofBits, Ideal.ieee, -EReal.coe_mul]
  norm_num [-EReal.coe_mul]

/-- The reciprocal of 448 is a positive real, below `2 ^ (-8)`. -/
theorem c448_real : ∃ r : ℝ, c448 = (r : EReal) ∧ 0 < r ∧ r < (2 : ℝ) ^ (-8 : ℤ) := by
  refine ⟨_, by unfold c448; simp [Ideal.ofBits, Ideal.ieee, -EReal.coe_mul]; rfl, ?_, ?_⟩
  · norm_num
  · norm_num

/-- A scale as it is chosen between zero, infinity and a power of two. -/
theorem select_pow2 (k : BitVec 32) :
    Scalar.select (IntOp.cmpi .slt k 4294967170#32) (0 : EReal) (Scalar.select (IntOp.cmpi .sgt k 127#32)
      (Ideal.ofBits .f32 0x7F800000#32) (FloatOps.exp2 (F := Ideal) (φ := .f32) (FloatOps.sitofp .f32 k))) = pow2 k := by
  unfold Scalar.select pow2
  rw [word_top]
  rfl

/-- A product with such a scale. -/
theorem mul_select_pow2 (a : EReal) (k : BitVec 32) :
    Scalar.select (IntOp.cmpi .slt k 4294967170#32) (0 : EReal) (a * Scalar.select (IntOp.cmpi .sgt k 127#32)
      (Ideal.ofBits .f32 0x7F800000#32) (FloatOps.exp2 (F := Ideal) (φ := .f32) (FloatOps.sitofp .f32 k))) = a * pow2 k := by
  rw [← select_pow2]
  unfold Scalar.select
  split_ifs <;> simp

/-- The magnitude operation is the larger of a value and its negation. -/
theorem absf_eq (v : EReal) : FloatOps.absf (F := Ideal) (φ := .f32) v = max v (-v) := rfl

/-- A block's entries are admissible if each is at most `B` in magnitude or infinite. -/
theorem amax_bound {f : Fin 32 → EReal} {B : EReal} (h : ∀ j, max (f j) (-(f j)) ≤ B ∨ max (f j) (-(f j)) = ⊤) :
    amax f = ⊤ ∨ amax f ≤ B := by
  change (Finset.univ : Finset (Fin 32)).sup (fun j => max (f j) (-(f j))) = ⊤
    ∨ (Finset.univ : Finset (Fin 32)).sup (fun j => max (f j) (-(f j))) ≤ B
  by_cases hj : ∃ j, max (f j) (-(f j)) = ⊤
  · obtain ⟨j, hj⟩ := hj
    left
    rw [eq_top_iff, ← hj]
    exact Finset.le_sup (f := fun j => max (f j) (-(f j))) (Finset.mem_univ j)
  · right
    refine Finset.sup_le fun j _ => ?_
    rcases h j with h | h
    · exact h
    · exact absurd ⟨j, h⟩ hj

/-- A largest magnitude is not negative. -/
theorem amax_nonneg (f : Fin 32 → EReal) : 0 ≤ amax f := by
  change 0 ≤ (Finset.univ : Finset (Fin 32)).sup (fun j => max (f j) (-(f j)))
  refine le_trans ?_ (Finset.le_sup (f := fun j => max (f j) (-(f j))) (Finset.mem_univ 0))
  rcases le_total 0 (f 0) with h | h
  · exact le_max_of_le_left h
  · exact le_max_of_le_right (EReal.neg_nonneg.mpr h)

/-- In an admissible block the exponent counted off the exponent field is the one computed from the logarithm, and is
between `-126` and `120`. -/
theorem kexp_bexp {f : Fin 32 → EReal} (h : amax f = ⊤ ∨ amax f ≤ (((2 : ℝ) ^ (128 : ℤ) : ℝ) : EReal)) :
    kexp (amax f * c448) = bexp f ∧ ∃ z : ℤ, -126 ≤ z ∧ z ≤ 120 ∧ bexp f = BitVec.ofInt 32 z := by
  obtain ⟨r, hr, h0, h1⟩ := c448_real
  unfold bexp
  rw [hr]
  refine kexp_eq_rexp (amax_nonneg f) h0 (h.imp_right fun hb => ?_)
  have hn := amax_nonneg f
  generalize amax f = a at hb hn
  induction a with
  | bot => simp at hn
  | top => exact absurd hb (not_le.mpr (EReal.coe_lt_top _))
  | coe a =>
    have hb := EReal.coe_le_coe_iff.mp hb
    have hn : 0 ≤ a := EReal.coe_nonneg.mp hn
    rw [← EReal.coe_mul, EReal.coe_lt_coe_iff]
    calc a * r ≤ (2 : ℝ) ^ (128 : ℤ) * r := mul_le_mul_of_nonneg_right hb h0.le
      _ < (2 : ℝ) ^ (128 : ℤ) * (2 : ℝ) ^ (-8 : ℤ) := mul_lt_mul_of_pos_left h1 (by positivity)
      _ = (2 : ℝ) ^ (120 : ℤ) := by rw [← zpow_add₀ two_ne_zero]; norm_num

end Cert.Maths
-- ==== Proof.Point.Quant.lean ====
/- The kernel's quantiser at the ideal instance, read at an entry: exponents, codes, scale bytes and widened activations. -/
module

public import proofs.«01_k».proof.Proof.Point.Raw
public import proofs.«01_k».proof.Proof.Maths.Quant
public import Idealize.ShloMosaic.Lib.Pointwise

@[expose] public section

set_option maxRecDepth 16384

noncomputable section

namespace Cert.KernelIdeal.Point

open Cert.KernelIdeal Cert.KernelIdeal.Gen Cert.Maths
open Idealize.ShloMosaic Idealize.ShloMosaic.TcCoe Idealize.ShloMosaic.Tactic

variable (x : FVec Ideal S256x1152 .bf16)

/-- Block `b` of token `n`. -/
def block (n : Fin 256) (b : Fin 36) : Fin 32 → EReal := fun j => x (ix2 n ⟨32 * b.val + j.val, by omega⟩)

/-- An element of the widened, transposed, blocked activations is an element of its block. -/
theorem widened_apply (n : Fin 256) (b : Fin 36) (j : Fin 32) : k0_pay6 (F := Ideal) x (ix3 b j n) = block x n b j := by
  pointwise [k0_pay6]
  refine congrArg (fun a => x (ix2 n a)) (Fin.ext ?_)
  show b.val * 32 + j.val = 32 * b.val + j.val
  omega

/-- A block's exponent is the one counted from its largest magnitude over 448. -/
theorem exponent_apply (n : Fin 256) (b : Fin 36) : k0_pay7 (F := Ideal) x (ix2 b n) = kexp (amax (block x n b) * c448) := by
  pointwise [k0_pay7]
  simp only [widened_apply, word_bot, absf_eq]
  rfl

/-- A code before its cast is the scaled element, clipped. -/
theorem clipped_apply (n : Fin 256) (b : Fin 36) (j : Fin 32) :
    k0_pay10 (F := Ideal) (k0_pay9 x) (ix3 b j n) = min (Ideal.ofBits .f32 0x43E00000#32) (max (Ideal.ofBits .f32 0xC3E00000#32)
      (block x n b j * Ideal.ofBits .f32 (IntOp.shli .vector (IntOp.subi 127#32 (kexp (amax (block x n b) * c448))) 23#32))) := by
  pointwise [k0_pay9, k0_pay10]
  rw [widened_apply, exponent_apply]

variable (hx : ∀ n b, amax (block x n b) = ⊤ ∨ amax (block x n b) ≤ (((2 : ℝ) ^ (128 : ℤ) : ℝ) : EReal))

include hx

/-- A code. -/
theorem code_apply (n : Fin 256) (b : Fin 36) (j : Fin 32) :
    k0_pay10 (F := Ideal) (k0_pay9 x) (ix3 b j n) = code (bexp (block x n b)) (block x n b j) := by
  obtain ⟨h, z, h1, h2, hz⟩ := kexp_bexp (hx n b)
  rw [clipped_apply, h, hz, ofBits_neg_biased (by omega) (by omega)]
  rfl

/-- The codes the kernel stores. -/
theorem codesOf_apply (n : Fin 256) (d : Fin 1152) :
    codesOf (F := Ideal) x (ix2 n d)
      = code (bexp (block x n ⟨d.val / 32, by omega⟩)) (block x n ⟨d.val / 32, by omega⟩ ⟨d.val % 32, by omega⟩) := by
  pointwise [codesOf, k0_pay12]
  exact code_apply x hx ..

/-- The scale bytes the kernel stores. -/
theorem scaleOf_apply (n : Fin 256) (b : Fin 36) :
    scaleOf (F := Ideal) x (ix2 n b) = (IntOp.addi (bexp (block x n b)) 127#32).setWidth 8 := by
  pointwise [scaleOf, k0_pay13]
  rw [exponent_apply, (kexp_bexp (hx n b)).1]

/-- The activations the logits are taken of: a code times its block's scale. -/
theorem xtOf_apply (n : Fin 256) (d : Fin 1152) :
    xtOf (F := Ideal) x (ix2 d n)
      = code (bexp (block x n ⟨d.val / 32, by omega⟩)) (block x n ⟨d.val / 32, by omega⟩ ⟨d.val % 32, by omega⟩)
        * pow2 (bexp (block x n ⟨d.val / 32, by omega⟩)) := by
  pointwise [xtOf, k0_pay11, k0_pay8]
  obtain ⟨h, z, h1, h2, hz⟩ := kexp_bexp (hx n ⟨d.val / 32, by omega⟩)
  rw [code_apply x hx, exponent_apply, h, hz, ofBits_biased (by omega) (by omega)]

end Cert.KernelIdeal.Point
-- ==== Proof.Ref.Quant.lean ====
/- The reference's quantiser at the ideal instance, read at an entry: exponents, codes, scale bytes, widened activations and
weights. -/
module

public import proofs.«01_k».proof.Proof.Gen.ReferenceIdeal.Skeleton
public import proofs.«01_k».proof.Proof.Maths.Quant
public import Idealize.ShloMosaic.Lib.Pointwise

@[expose] public section

set_option maxRecDepth 16384

noncomputable section

namespace Cert.ReferenceIdeal.Ref

open Cert.ReferenceIdeal Cert.ReferenceIdeal.Gen Cert.Maths
open Idealize.ShloMosaic Idealize.ShloMosaic.TcCoe Idealize.ShloMosaic.Tactic

variable (x : FVec Ideal S2x128x1152 .bf16)

/-- Block `b` of token `n`, the tokens of the two sequences counted through. -/
def block (n : Fin 256) (b : Fin 36) : Fin 32 → EReal :=
  fun j => x (ix3 ⟨n.val / 128, by omega⟩ ⟨n.val % 128, by omega⟩ ⟨32 * b.val + j.val, by omega⟩)

/-- An element of the widened, blocked activations is an element of its block. -/
theorem widened_apply (n : Fin 256) (b : Fin 36) (j : Fin 32) : k0_pay2 (F := Ideal) x (ix3 n b j) = block x n b j := by
  pointwise [k0_pay2]
  refine congrArg (fun a => x (ix3 _ _ a)) (Fin.ext ?_)
  show b.val * 32 + j.val = 32 * b.val + j.val
  omega

/-- A block's exponent is that of its largest magnitude. -/
theorem exponent_apply (n : Fin 256) (b : Fin 36) : k0_pay3 (F := Ideal) x (ix2 n b) = bexp (block x n b) := by
  pointwise [k0_pay3]
  simp only [widened_apply, word_bot, word_top, word_m126, absf_eq]
  rfl

/-- A code before it is stored. -/
theorem code_apply (n : Fin 256) (b : Fin 36) (j : Fin 32) :
    k0_pay4 (F := Ideal) x (ix3 n b j) = code (bexp (block x n b)) (block x n b j) := by
  pointwise [k0_pay4]
  rw [widened_apply, exponent_apply, mul_select_pow2]
  rfl

/-- The codes the reference stores. -/
theorem codes_apply (n : Fin 256) (d : Fin 1152) :
    k0_pay6 (F := Ideal) (k0_pay4 x) (ix2 n d)
      = code (bexp (block x n ⟨d.val / 32, by omega⟩)) (block x n ⟨d.val / 32, by omega⟩ ⟨d.val % 32, by omega⟩) := by
  pointwise [k0_pay6, k0_pay5]
  exact code_apply ..

/-- The scale bytes the reference stores. -/
theorem scale_apply (n : Fin 256) (b : Fin 36) :
    k0_pay7 (k0_pay3 (F := Ideal) x) (ix2 n b) = (IntOp.addi (bexp (block x n b)) 127#32).setWidth 8 := by
  pointwise [k0_pay7]
  rw [exponent_apply]

/-- The activations the logits are taken of. -/
theorem wide_apply (n : Fin 256) (d : Fin 1152) :
    k0_pay8 (F := Ideal) (k0_pay3 (F := Ideal) x) (k0_pay4 x) (ix2 n d)
      = code (bexp (block x n ⟨d.val / 32, by omega⟩)) (block x n ⟨d.val / 32, by omega⟩ ⟨d.val % 32, by omega⟩)
        * pow2 (bexp (block x n ⟨d.val / 32, by omega⟩)) := by
  pointwise [k0_pay8, k0_pay5]
  rw [code_apply, exponent_apply, mul_select_pow2]

/-- A weight scale. -/
theorem wscale_apply (sc : IVec S262144x36 8) (v : Fin 262144) (b : Fin 36) :
    k0_pay9 (F := Ideal) sc (ix2 v b) = pow2 (IntOp.subi ((sc (ix2 v b)).setWidth 32) 127#32) := by
  pointwise [k0_pay9]
  exact select_pow2 _

end Cert.ReferenceIdeal.Ref
-- ==== Proof.Ref.Loss.lean ====
/- The reference's loss at the ideal instance, read at a token. -/
module

public import proofs.«01_k».proof.Proof.Gen.ReferenceIdeal.Skeleton
public import proofs.«01_k».proof.Proof.Maths.Softmax
public import Idealize.ShloMosaic.Lib.Pointwise

@[expose] public section

set_option maxRecDepth 16384

noncomputable section

namespace Cert.ReferenceIdeal.Ref

open Cert.ReferenceIdeal Cert.ReferenceIdeal.Gen Cert.Maths
open Idealize.ShloMosaic Idealize.ShloMosaic.TcCoe Idealize.ShloMosaic.Tactic

variable {F : FTy → Type} [FloatOps F] [Named F]

/-- The weights times their blocks' scales. -/
def weights (v79 : FVec F S262144x36 .bf16) (v81 : FVec F S262144x1152 .bf16) : FVec F S262144x1152 .bf16 :=
  shapeCast S262144x1152 (mulf (shapeCast S262144x36x32 v81 shapeCasts_S262144x1152_S262144x36x32)
    (broadcastTo S262144x36x32 (shapeCast S262144x36x1 v79 shapeCasts_S262144x36_S262144x36x1) broadcasts_S262144x36x1_S262144x36x32))
    shapeCasts_S262144x36x32_S262144x1152

/-- Every token's logits. -/
def logits (v64 : FVec F S256x1152 .bf16) (w : FVec F S262144x1152 .bf16) : FVec F S256x262144 .f32 :=
  matmul dot_S256x1152_S262144x1152_S256x262144_1_1_0_0_n_n none v64 w (constant S256x262144 .f32 0x00000000#32)

/-- The logits of the labels, zero elsewhere. -/
def picked (v87 : FVec F S256x262144 .f32) (v98 : IVec S256x1 32) : FVec F S256x262144 .f32 :=
  select (cmpi .eq (iota .tc S256x262144 32 [1] iota_S256x262144_d1_w32) (broadcastTo S256x262144 v98 broadcasts_S256x1_S256x262144)) v87
    (broadcast S256x262144 (Scalar.ofBits .f32 0x00000000#32))

/-- A row's sum, as a column. -/
def rowsum (v103 : FVec F S256x262144 .f32) : FVec F S256x1 .f32 :=
  shapeCast S256x1 (multiReduction .add [1] S256 v103 0x00000000#32 reduces_S256x262144_S256 (.inl rfl) rfl) shapeCasts_S256_S256x1

/-- A row's maximum, as a column. -/
def rowmax (v87 : FVec F S256x262144 .f32) : FVec F S256x1 .f32 :=
  shapeCast S256x1 (multiReduction .maximumf [1] S256 v87 0xFF800000#32 reduces_S256x262144_S256 (.inl rfl) rfl) shapeCasts_S256_S256x1

/-- The exponentials relative to a column. -/
def relative (v87 : FVec F S256x262144 .f32) (v89 : FVec F S256x1 .f32) : FVec F S256x262144 .f32 :=
  exp (subf v87 (broadcastTo S256x262144 v89 broadcasts_S256x1_S256x262144))

/-- Every token's logarithm of the sum of exponentials, as a column. -/
def logsum (v87 : FVec F S256x262144 .f32) : FVec F S256x1 .f32 :=
  addf (rowmax v87) (log (rowsum (relative v87 (rowmax v87))))

/-- Every token's label logit, as a column. -/
def chosen (v87 : FVec F S256x262144 .f32) (v97 : Vec F S2x128 .i32) : FVec F S256x1 .f32 :=
  rowsum (picked v87 (shapeCast S256x1 v97 shapeCasts_S2x128_S256x1))

/-- The loss from the logits. -/
def loss (v87 : FVec F S256x262144 .f32) (v97 : Vec F S2x128 .i32) : FVec F S1x256 .f32 :=
  shapeCast S1x256 (subf (subf (logsum v87) (chosen v87 v97)) (broadcast S256x1 (Scalar.ofBits .f32 0x4147A05B#32))) shapeCasts_S256x1_S1x256

/-- The loss the reference writes is the loss of the logits of the widened operands. -/
theorem pay1_eq (v64 : FVec F S256x1152 .bf16) (v79 : FVec F S262144x36 .bf16) (v81 : FVec F S262144x1152 .bf16) (v97 : Vec F S2x128 .i32) :
    k0_pay1 v64 v79 v81 v97 = loss (logits v64 (weights v79 v81)) v97 := rfl

/-- A widened weight is its code times its block's scale. -/
theorem weights_apply (v79 : FVec Ideal S262144x36 .bf16) (v81 : FVec Ideal S262144x1152 .bf16) (v : Fin 262144) (d : Fin 1152) :
    weights (F := Ideal) v79 v81 (ix2 v d) = v81 (ix2 v d) * v79 (ix2 v ⟨d.val / 32, by omega⟩) := by
  unfold weights
  rw [shapeCast_apply _ _ (ix2 v d) (ix3 v (⟨d.val / 32, by omega⟩ : Fin 36) (⟨d.val % 32, by omega⟩ : Fin 32)) (by
    rw [Shape.rowMajor_val_two, Shape.rowMajor_val_three]
    show (v.val * 36 + d.val / 32) * 32 + d.val % 32 = v.val * 1152 + d.val
    omega)]
  refine congrArg₂ (fun a b : EReal => a * b) ?_ ?_
  · refine shapeCast_apply _ _ _ (ix2 v d) ?_
    rw [Shape.rowMajor_val_two, Shape.rowMajor_val_three]
    show v.val * 1152 + d.val = (v.val * 36 + d.val / 32) * 32 + d.val % 32
    omega
  · refine (broadcastTo_apply _ _ _ (ix3 v (⟨d.val / 32, by omega⟩ : Fin 36) (0 : Fin 1)) ?_).trans ?_
    · intro a
      fin_cases a
      · rfl
      · rfl
      · rfl
    · refine shapeCast_apply _ _ _ (ix2 v (⟨d.val / 32, by omega⟩ : Fin 36)) ?_
      rw [Shape.rowMajor_val_two, Shape.rowMajor_val_three]
      show v.val * 36 + d.val / 32 = (v.val * 36 + d.val / 32) * 1 + 0
      omega

/-- A logit is the sum of products over the model dimension. -/
theorem logits_apply (v64 : FVec Ideal S256x1152 .bf16) (w : FVec Ideal S262144x1152 .bf16) (n : Fin 256) (v : Fin 262144) :
    logits (F := Ideal) v64 w (ix2 n v) = ∑ d : Fin 1152, v64 (ix2 n d) * w (ix2 v d) := by
  have key : matmul (F := Ideal) (φ₁ := .bf16) (φ₂ := .bf16) dot_S256x1152_S262144x1152_S256x262144_1_1_0_0_n_n none v64 w (constant S256x262144 .f32 0x00000000#32) (ix2 n v)
      = ∑ d : Fin 1152, v64 (ix2 n d) * w (ix2 v d) := by
    pointwise
  exact key

/-- A row's sum. -/
theorem rowsum_apply (y : FVec Ideal S256x262144 .f32) (n : Fin 256) :
    rowsum (F := Ideal) y (ix2 n 0) = ∑ v : Fin 262144, y (ix2 n v) := by
  pointwise [rowsum]

/-- A row's maximum, from minus infinity. -/
theorem rowmax_apply (y : FVec Ideal S256x262144 .f32) (n : Fin 256) :
    rowmax (F := Ideal) y (ix2 n 0) = (Finset.univ : Finset (Fin 262144)).fold max ⊥ fun v => y (ix2 n v) := by
  have hb : Ideal.ofBits .f32 0xFF800000#32 = ⊥ := by simp [Ideal.ofBits, Ideal.ieee]
  rw [← hb]
  pointwise [rowmax]

/-- The exponential of a logit less its row's maximum. -/
theorem relative_apply (y : FVec Ideal S256x262144 .f32) (m : FVec Ideal S256x1 .f32) (n : Fin 256) (v : Fin 262144) :
    relative (F := Ideal) y m (ix2 n v) = Ideal.exp (y (ix2 n v) - m (ix2 n 0)) := by
  have h2 : broadcastTo S256x262144 m broadcasts_S256x1_S256x262144 (ix2 n v) = m (ix2 n 0) := by
    refine broadcastTo_apply _ _ _ _ fun a => ?_
    fin_cases a
    · rfl
    · rfl
  have h : relative (F := Ideal) y m (ix2 n v)
      = Ideal.exp (y (ix2 n v) - broadcastTo S256x262144 m broadcasts_S256x1_S256x262144 (ix2 n v)) := rfl
  rw [h, h2]

/-- A sum with a logarithm, at an index. -/
theorem addlog_apply (a b : FVec Ideal S256x1 .f32) (i : S256x1.Idx) : addf a (log b) i = a i + Ideal.log (b i) := rfl

/-- A difference less a constant, at an index. -/
theorem less_apply (a b : FVec Ideal S256x1 .f32) (w : BitVec 32) (i : S256x1.Idx) :
    subf (subf a b) (broadcast S256x1 (Scalar.ofBits .f32 w)) i = (a i - b i) - Ideal.ofBits .f32 w := rfl

/-- A column read as a row. -/
theorem column_apply (a : FVec Ideal S256x1 .f32) (n : Fin 256) :
    shapeCast S1x256 a shapeCasts_S256x1_S1x256 (ix2 0 n) = a (ix2 n 0) := by
  refine shapeCast_apply _ _ _ _ ?_
  rw [Shape.rowMajor_val_two, Shape.rowMajor_val_two]
  show n.val * 1 + 0 = 0 * 256 + n.val
  omega

/-- A token's normaliser is its maximum plus the logarithm of the sum of the relative exponentials. -/
theorem logsum_apply (lg : FVec Ideal S256x262144 .f32) (n : Fin 256) :
    logsum (F := Ideal) lg (ix2 n 0)
      = (Finset.univ : Finset (Fin 262144)).fold max ⊥ (fun v => lg (ix2 n v))
        + Ideal.log (∑ v : Fin 262144, Ideal.exp (lg (ix2 n v) - (Finset.univ : Finset (Fin 262144)).fold max ⊥ (fun v => lg (ix2 n v)))) := by
  unfold logsum
  rw [addlog_apply, rowsum_apply, rowmax_apply]
  refine congrArg (fun z => _ + Ideal.log z) (Finset.sum_congr rfl fun v _ => ?_)
  rw [relative_apply, rowmax_apply]

/-- The labels as a column. -/
theorem label_apply (l : IVec S2x128 32) (n : Fin 256) :
    (shapeCast S256x1 l shapeCasts_S2x128_S256x1 : IVec S256x1 32) (ix2 n 0) = l (ix2 ⟨n.val / 128, by omega⟩ ⟨n.val % 128, by omega⟩) := by
  pointwise

/-- A logit is kept where its vocabulary number is the label, and is zero elsewhere. -/
theorem picked_apply (lg : FVec Ideal S256x262144 .f32) (l : IVec S256x1 32) (n : Fin 256) (v : Fin 262144) :
    picked (F := Ideal) lg l (ix2 n v) = if l (ix2 n 0) = BitVec.ofNat 32 v.val then lg (ix2 n v) else 0 := by
  have h1 : iota .tc S256x262144 32 [1] iota_S256x262144_d1_w32 (ix2 n v) = BitVec.ofNat 32 v.val := iota_single_apply ..
  have h2 : broadcastTo S256x262144 l broadcasts_S256x1_S256x262144 (ix2 n v) = l (ix2 n 0) := by
    refine broadcastTo_apply _ _ _ _ fun a => ?_
    fin_cases a
    · rfl
    · rfl
  have h : picked (F := Ideal) lg l (ix2 n v)
      = Scalar.select (IntOp.cmpi .eq (iota .tc S256x262144 32 [1] iota_S256x262144_d1_w32 (ix2 n v))
          (broadcastTo S256x262144 l broadcasts_S256x1_S256x262144 (ix2 n v))) (lg (ix2 n v)) (Ideal.ofBits .f32 0x00000000#32) := rfl
  rw [h, h1, h2, Ideal.ofBits_zero_f32]
  by_cases hc : l (ix2 n 0) = BitVec.ofNat 32 v.val
  · rw [hc, if_pos rfl]
    simp [Scalar.select, IntOp.cmpi]
  · rw [if_neg hc]
    have := beq_false_of_ne (Ne.symm hc)
    simp [Scalar.select, IntOp.cmpi, this]

/-- The sum of the kept logits of a token. -/
theorem chosen_apply (lg : FVec Ideal S256x262144 .f32) (l : IVec S2x128 32) (n : Fin 256) :
    chosen (F := Ideal) lg l (ix2 n 0)
      = ∑ v : Fin 262144, if l (ix2 ⟨n.val / 128, by omega⟩ ⟨n.val % 128, by omega⟩) = BitVec.ofNat 32 v.val then lg (ix2 n v) else 0 := by
  unfold chosen
  rw [rowsum_apply]
  refine Finset.sum_congr rfl fun v _ => ?_
  rw [picked_apply, label_apply]

/-- A token's loss is its normaliser less its label's logit less the constant. -/
theorem loss_parts (lg : FVec Ideal S256x262144 .f32) (l : IVec S2x128 32) (n : Fin 256) :
    loss (F := Ideal) lg l (ix2 0 n)
      = (logsum (F := Ideal) lg (ix2 n 0) - chosen (F := Ideal) lg l (ix2 n 0)) - Ideal.ofBits .f32 0x4147A05B#32 := by
  unfold loss
  rw [column_apply, less_apply]

/-- The reference's loss of a token. -/
theorem loss_apply (lg : FVec Ideal S256x262144 .f32) (l : IVec S2x128 32) (n : Fin 256) :
    loss (F := Ideal) lg l (ix2 0 n)
      = lossOf 262144 (row fun v => lg (ix2 n v)) (l (ix2 ⟨n.val / 128, by omega⟩ ⟨n.val % 128, by omega⟩)) := by
  rw [loss_parts, logsum_apply, chosen_apply]
  exact lossOf_row (fun v => lg (ix2 n v)) _

end Cert.ReferenceIdeal.Ref
-- ==== Proof.Ref.Values.lean ====
/- The reference's three results at the ideal instance, read at an entry. -/
module

public import proofs.«01_k».proof.Proof.Gen.ReferenceIdeal.Value
public import proofs.«01_k».proof.Proof.Ref.Quant
public import proofs.«01_k».proof.Proof.Ref.Loss

@[expose] public section

set_option maxRecDepth 16384

noncomputable section

namespace Cert.ReferenceIdeal.Ref

open Cert.ReferenceIdeal Cert.ReferenceIdeal.Gen Cert.Maths
open Idealize.ShloMosaic Idealize.ShloMosaic.TcCoe Idealize.ShloMosaic.Tactic

/-- The zero offsets of rank three. -/
theorem zeros3 : (![0, 0, 0] : Fin 3 → ℕ) = fun _ => 0 := by
  funext a
  fin_cases a <;> rfl

variable (a0 : Vec Ideal S2x128x1152 .bf16) (a1 : Vec Ideal S262144x1152 .fp8e4m3) (a2 : Vec Ideal S262144x36 .i8) (a3 : Vec Ideal S2x128 .i32)

/-- The exponents stored before the product are those of the activations. -/
theorem exponents_eq : k0_pay11 (F := Ideal) a0 a1 a2 a3 = k0_pay3 (F := Ideal) a0 := by
  unfold k0_pay11
  rw [View.ld_unit_zero (S := S2x128x1152) zeros3 _ a0]

/-- The codes stored before the product are those of the activations. -/
theorem clipped_eq : k0_pay12 (F := Ideal) a0 a1 a2 a3 = k0_pay4 (F := Ideal) a0 := by
  unfold k0_pay12
  rw [View.ld_unit_zero (S := S2x128x1152) zeros3 _ a0]

/-- The code of column `d` of token `n`. -/
def codeAt (n : Fin 256) (d : Fin 1152) : EReal :=
  code (bexp (block a0 n ⟨d.val / 32, by omega⟩)) (block a0 n ⟨d.val / 32, by omega⟩ ⟨d.val % 32, by omega⟩)

/-- The codes. -/
theorem G5_apply (n : Fin 256) (d : Fin 1152) : Value.G5 (F := Ideal) a0 a1 a2 a3 (ix2 n d) = codeAt a0 n d := by
  unfold Value.G5
  rw [clipped_eq]
  exact codes_apply a0 n d

/-- The scale bytes. -/
theorem G6_apply (n : Fin 256) (b : Fin 36) :
    Value.G6 (F := Ideal) a0 a1 a2 a3 (ix2 n b) = (IntOp.addi (bexp (block a0 n b)) 127#32).setWidth 8 := by
  unfold Value.G6
  rw [exponents_eq]
  exact scale_apply a0 n b

/-- A token's logit at a vocabulary row. -/
def logitAt (n : Fin 256) (v : Fin 262144) : EReal :=
  ∑ d : Fin 1152, (codeAt a0 n d * pow2 (bexp (block a0 n ⟨d.val / 32, by omega⟩)))
    * (a1 (ix2 v d) * pow2 (IntOp.subi ((a2 (ix2 v ⟨d.val / 32, by omega⟩)).setWidth 32) 127#32))

/-- A logit of the reference's operands is the stated sum. -/
theorem logits_eq (n : Fin 256) (v : Fin 262144) :
    logits (F := Ideal) (k0_pay8 (k0_pay11 (F := Ideal) a0 a1 a2 a3) (k0_pay12 a0 a1 a2 a3)) (weights (k0_pay9 a2) (k0_pay10 a1)) (ix2 n v)
      = logitAt a0 a1 a2 n v := by
  rw [logits_apply, exponents_eq, clipped_eq]
  unfold logitAt
  refine Finset.sum_congr rfl fun d _ => ?_
  rw [weights_apply, wide_apply, wscale_apply]
  rfl

/-- The losses. -/
theorem G4_apply (n : Fin 256) :
    Value.G4 (F := Ideal) a0 a1 a2 a3 (ix2 0 n)
      = lossOf 262144 (row (logitAt a0 a1 a2 n)) (a3 (ix2 ⟨n.val / 128, by omega⟩ ⟨n.val % 128, by omega⟩)) := by
  unfold Value.G4
  rw [pay1_eq, loss_apply]
  exact congrArg (fun f => lossOf 262144 (row f) _) (funext fun v => logits_eq a0 a1 a2 a3 n v)

end Cert.ReferenceIdeal.Ref
-- ==== Proof.Bounded.lean ====
/- What the precondition says of the activations: each is at most the largest bfloat16 number in magnitude, or infinite. -/
module

public import proofs.«01_k».proof.Defs
public import proofs.«01_k».proof.Proof.Gen.Pre_x_is_bf16
public import proofs.«01_k».proof.Proof.Maths.Quant
public import Idealize.ShloMosaic.Lib.ReduceAll

@[expose] public section

set_option maxRecDepth 16384

noncomputable section

namespace Cert.Proof

open Idealize.ShloMosaic Idealize.ShloMosaic.TcCoe Cert.Maths

/-- The largest bfloat16 number is below `2 ^ 128`. -/
theorem largest_le : Ideal.ofBits .f32 0x7F7F0000#32 ≤ (((2 : ℝ) ^ (128 : ℤ) : ℝ) : EReal) := by
  have e : Ideal.ofBits .f32 0x7F7F0000#32 = (((16711680 : ℝ) * 2 ^ (104 : ℕ) : ℝ) : EReal) := by
    simp [Ideal.ofBits, Ideal.ieee, -EReal.coe_mul]
  rw [e, EReal.coe_le_coe_iff]
  norm_num

/-- The precondition read at an activation. -/
theorem bounded (a0 : FVec Ideal Cert.Pre_x_is_bf16.S2x128x1152 .bf16) (a1 : FVec Ideal Cert.Pre_x_is_bf16.S262144x1152 .fp8e4m3)
    (a2 : IVec Cert.Pre_x_is_bf16.S262144x36 8) (a3 : IVec Cert.Pre_x_is_bf16.S2x128 32)
    (h : Cert.Pre_x_is_bf16.fn (F := Ideal) a0 a1 a2 a3 = fun _ => 1#1) (i : Cert.Pre_x_is_bf16.S2x128x1152.Idx) :
    max (a0 i) (-(a0 i)) ≤ (((2 : ℝ) ^ (128 : ℤ) : ℝ) : EReal) ∨ max (a0 i) (-(a0 i)) = ⊤ := by
  have e := congrFun h (fun k => k.elim0)
  haveI : Subsingleton Cert.Pre_x_is_bf16.S_.Idx := ⟨fun a b => funext fun k => k.elim0⟩
  have := Host.reduce_andi_all _ _ _ _ _ e i
  have h' : IntOp.ori (Ideal.cmp .ole (max (a0 i) (-(a0 i))) (Ideal.ofBits .f32 0x7F7F0000#32))
      (Ideal.cmp .oeq (max (a0 i) (-(a0 i))) (Ideal.ofBits .f32 0x7F800000#32)) = 1#1 := this
  rw [word_top] at h'
  by_cases h1 : max (a0 i) (-(a0 i)) ≤ Ideal.ofBits .f32 0x7F7F0000#32
  · exact Or.inl (h1.trans largest_le)
  · right
    by_contra h2
    simp [Ideal.cmp, h1, h2, IntOp.ori] at h'

end Cert.Proof
-- ==== Proof.Equal.lean ====
/- The kernel's three results are the reference's, at the ideal instance, when the activations are admissible. -/
module

public import proofs.«01_k».proof.Proof.Point.Sweep
public import proofs.«01_k».proof.Proof.Point.Loss
public import proofs.«01_k».proof.Proof.Point.Quant
public import proofs.«01_k».proof.Proof.Ref.Values
public import proofs.«01_k».proof.Proof.Bounded

@[expose] public section

set_option maxRecDepth 16384

noncomputable section

namespace Cert.Proof

open Idealize.ShloMosaic Idealize.ShloMosaic.TcCoe Idealize.ShloMosaic.Tactic Idealize.SL.Sem Cert.Maths
open Cert.KernelIdeal Cert.KernelIdeal.Gen Cert.KernelIdeal.Point

variable (m : (ℓ : Loc nD τ sig) → Buf (Elt Ideal) ℓ)

/-- The arguments. -/
abbrev arg0 (c : Dev nD) : Vec Ideal S2x128x1152 .bf16 := m ((c : Thread nD τ).loc main_arg0)
@[inherit_doc arg0] abbrev arg1 (c : Dev nD) : Vec Ideal S262144x1152 .fp8e4m3 := m ((c : Thread nD τ).loc main_arg1)
@[inherit_doc arg0] abbrev arg2 (c : Dev nD) : Vec Ideal S262144x36 .i8 := m ((c : Thread nD τ).loc main_arg2)
@[inherit_doc arg0] abbrev arg3 (c : Dev nD) : Vec Ideal S2x128 .i32 := m ((c : Thread nD τ).loc main_arg3)

/-- The kernel's block of a token is the reference's. -/
theorem block_eq (c : Dev nD) (n : Fin 256) (b : Fin 36) :
    block (acts m c) n b = Cert.ReferenceIdeal.Ref.block (arg0 m c) n b := by
  funext j
  refine shapeCast_apply _ _ _ (ix3 (⟨n.val / 128, by omega⟩ : Fin 2) (⟨n.val % 128, by omega⟩ : Fin 128) (⟨32 * b.val + j.val, by omega⟩ : Fin 1152)) ?_
  rw [Shape.rowMajor_val_two, Shape.rowMajor_val_three]
  show (n.val / 128 * 128 + n.val % 128) * 1152 + (32 * b.val + j.val) = n.val * 1152 + (32 * b.val + j.val)
  omega

/-- The kernel's label of a token is the reference's. -/
theorem label_eq (c : Dev nD) (n : Fin 256) :
    labels m c (ix2 0 n) = arg3 m c (ix2 ⟨n.val / 128, by omega⟩ ⟨n.val % 128, by omega⟩) := by
  refine shapeCast_apply (s := S2x128) _ _ _ (ix2 (⟨n.val / 128, by omega⟩ : Fin 2) (⟨n.val % 128, by omega⟩ : Fin 128)) ?_
  rw [Shape.rowMajor_val_two, Shape.rowMajor_val_two]
  show n.val / 128 * 128 + n.val % 128 = 0 * 256 + n.val
  omega

variable (hx : ∀ (c : Dev nD) (i : S2x128x1152.Idx), max (arg0 m c i) (-(arg0 m c i)) ≤ (((2 : ℝ) ^ (128 : ℤ) : ℝ) : EReal)
  ∨ max (arg0 m c i) (-(arg0 m c i)) = ⊤)

include hx

/-- Every block's largest magnitude is admissible. -/
theorem admissible (c : Dev nD) (n : Fin 256) (b : Fin 36) :
    amax (block (acts m c) n b) = ⊤ ∨ amax (block (acts m c) n b) ≤ (((2 : ℝ) ^ (128 : ℤ) : ℝ) : EReal) := by
  rw [block_eq]
  exact amax_bound fun j => hx c _

/-- One of the codes. -/
theorem codes_at (c : Dev nD) (n : Fin 256) (d : Fin 1152) :
    Value.G5 m c (ix2 n d) = Cert.ReferenceIdeal.Value.G5 (F := Ideal) (arg0 m c) (arg1 m c) (arg2 m c) (arg3 m c) (ix2 n d) := by
  obtain ⟨M, S, B, _, _, h5, _⟩ := results m c
  rw [h5, codesOf_apply (acts m c) (admissible m hx c) n d, block_eq]
  exact (Cert.ReferenceIdeal.Ref.G5_apply (arg0 m c) (arg1 m c) (arg2 m c) (arg3 m c) n d).symm

/-- The codes are equal. -/
theorem codes_eq (c : Dev nD) :
    Value.G5 m c = Cert.ReferenceIdeal.Value.G5 (F := Ideal) (arg0 m c) (arg1 m c) (arg2 m c) (arg3 m c) :=
  funext fun i => by
    rw [eq_ix2 i]
    exact codes_at m hx c (i 0) (i 1)

/-- One of the scale bytes. -/
theorem scales_at (c : Dev nD) (n : Fin 256) (b : Fin 36) :
    Value.G6 m c (ix2 n b) = Cert.ReferenceIdeal.Value.G6 (F := Ideal) (arg0 m c) (arg1 m c) (arg2 m c) (arg3 m c) (ix2 n b) := by
  obtain ⟨M, S, B, _, _, _, h6⟩ := results m c
  rw [h6, scaleOf_apply (acts m c) (admissible m hx c) n b, block_eq]
  exact (Cert.ReferenceIdeal.Ref.G6_apply (arg0 m c) (arg1 m c) (arg2 m c) (arg3 m c) n b).symm

/-- The scale bytes are equal. -/
theorem scales_eq (c : Dev nD) :
    Value.G6 m c = Cert.ReferenceIdeal.Value.G6 (F := Ideal) (arg0 m c) (arg1 m c) (arg2 m c) (arg3 m c) :=
  funext fun i => by
    rw [eq_ix2 i]
    exact scales_at m hx c (i 0) (i 1)

/-- The logits are equal. -/
theorem logit_eq (c : Dev nD) (n : Fin 256) :
    logit m c n = row (Cert.ReferenceIdeal.Ref.logitAt (arg0 m c) (arg1 m c) (arg2 m c) n) := by
  funext v
  unfold logit rowLogit row
  split_ifs with hv
  · unfold Cert.ReferenceIdeal.Ref.logitAt
    refine Finset.sum_congr rfl fun d _ => ?_
    rw [xtOf_apply (acts m c) (admissible m hx c) n d, block_eq, mul_comm]
    rfl
  · rfl

/-- One token's loss. -/
theorem losses_at (c : Dev nD) (n : Fin 256) :
    Value.G4 m c (ix2 0 n) = Cert.ReferenceIdeal.Value.G4 (F := Ideal) (arg0 m c) (arg1 m c) (arg2 m c) (arg3 m c) (ix2 0 n) := by
  obtain ⟨M, S, B, hi, h4, _, _⟩ := results m c
  rw [h4, loss_inv (fun r => hi r n), logit_eq m hx c, label_eq]
  exact (Cert.ReferenceIdeal.Ref.G4_apply (arg0 m c) (arg1 m c) (arg2 m c) (arg3 m c) n).symm

/-- The losses are equal. -/
theorem losses_eq (c : Dev nD) :
    Value.G4 m c = Cert.ReferenceIdeal.Value.G4 (F := Ideal) (arg0 m c) (arg1 m c) (arg2 m c) (arg3 m c) :=
  funext fun i => by
    have e : i = ix2 0 (i 1) := by
      rw [eq_ix2 i]
      exact congrArg (fun a => ix2 a (i 1)) (Subsingleton.elim (α := Fin 1) _ _)
    rw [e]
    exact losses_at m hx c (i 1)

end Cert.Proof
-- ==== Proof.lean ====
/- The claims: the frames of the kernel, of its idealization and of the reference; that the idealizations change nothing
but what they say; and that the idealized kernel and the idealized reference compute the same three results. -/
module

public import proofs.«01_k».proof.Proof.Same
public import proofs.«01_k».proof.Proof.Equal
public import proofs.«01_k».proof.Proof.KernelRun.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_x_is_bf16
public import Idealize.ShloMosaic.Adequacy
public import Idealize.ShloMosaic.Init

@[expose] public section

noncomputable section

namespace Cert.Proof

open Idealize.ShloMosaic Idealize.SL.Sem Cert.Kernel

/-- From initial memories that agree on the arguments, of which the activations are admissible, the idealized kernel and
the idealized reference end with the same loss, the same codes and the same scale bytes, and change no argument. -/
theorem algebraic : Cert.algebraic_KernelIdeal_ReferenceIdeal_pre_x_is_bf16 := fun m g m' g' hp he => by
  have hx := fun c => bounded (arg0 m c) (arg1 m c) (arg2 m c) (arg3 m c) (hp c)
  refine ⟨fun c => Cert.KernelIdeal.Value.G4 m c, fun c => Cert.KernelIdeal.Value.G5 m c,
    fun c => Cert.KernelIdeal.Value.G6 m c, Cert.KernelIdeal.Value.run m g, ?_⟩
  refine (θ_run _ _ _).mono (fun r h c => ?_) (Cert.ReferenceIdeal.Value.run m' g')
  obtain ⟨h0, h1, h2, hk⟩ := h c
  obtain ⟨e0, e1, e2, e3⟩ := he c
  refine ⟨h0.trans ?_, h1.trans ?_, h2.trans ?_, hk⟩
  · rw [e0, e1, e2, e3]
    exact (losses_eq m hx c).symm
  · rw [e0, e1, e2, e3]
    exact (codes_eq m hx c).symm
  · rw [e0, e1, e2, e3]
    exact (scales_eq m hx c).symm

/-- All the claims. -/
theorem claim : Cert.Claim := ⟨Cert.Kernel.Gen.facts, Cert.KernelIdeal.Gen.facts, Cert.ReferenceIdeal.Gen.facts,
  Cert.Reference.Gen.facts, Cert.Pre_x_is_bf16.Gen.facts,
  frame_Kernel,
  fun m g _ => Cert.KernelIdeal.Run.frame (F := Ideal) m g,
  fun m g _ => Cert.KernelIdeal.Run.frame (F := Ideal) m g,
  fun m g _ => Cert.ReferenceIdeal.Gen.frame (F := Ideal) m g,
  fun m g _ => Cert.ReferenceIdeal.Gen.frame (F := Ideal) m g,
  fun m g _ => Cert.Reference.Gen.frame (F := Bits) m g,
  trivial,
  IdealRules.named_const.statement Cert.ReferenceIdeal.κ "ln2" .f32 0x3F317218#32 _ rfl,
  algebraic⟩

end Cert.Proof

end
